-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 2048, 512]⟩ ⟨3, ![4, 2048, 512]⟩ (Layout.meshBlock [2, 2, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![512, 512]⟩ ⟨2, ![2048, 512]⟩ (Layout.meshBlock [2, 2, 4] ![[2], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x2048x512 : Shape := ⟨3, ![1, 2048, 512]⟩
abbrev S512 : Shape := ⟨1, ![512]⟩
abbrev S512x512 : Shape := ⟨2, ![512, 512]⟩
abbrev S2x3x256x128 : Shape := ⟨4, ![2, 3, 256, 128]⟩
abbrev S4x512x128 : Shape := ⟨3, ![4, 512, 128]⟩
abbrev S2x3 : Shape := ⟨2, ![2, 3]⟩
abbrev S_ : Shape := ⟨0, ![]⟩
abbrev S1x256x128 : Shape := ⟨3, ![1, 256, 128]⟩
abbrev S256x128 : Shape := ⟨2, ![256, 128]⟩
abbrev S1x1x256x128 : Shape := ⟨4, ![1, 1, 256, 128]⟩
abbrev S1x1 : Shape := ⟨2, ![1, 1]⟩
abbrev S1x512x128 : Shape := ⟨3, ![1, 512, 128]⟩
abbrev S512x128 : Shape := ⟨2, ![512, 128]⟩
abbrev S512x1 : Shape := ⟨2, ![512, 1]⟩
abbrev S128 : Shape := ⟨1, ![128]⟩
abbrev S1x128 : Shape := ⟨2, ![1, 128]⟩

abbrev nBuf : Space → Nat
  | .hbm => 3
  | .vmem => 6
  | .smem => 0
  | _ => 0

abbrev bufTy : (tb : Table) → Fin (tcTables nBuf tb) → BufTy
  | .hbm, ⟨0, _⟩ => ⟨S1x2048x512, .f32⟩
  | .hbm, ⟨1, _⟩ => ⟨S512, .f32⟩
  | .hbm, ⟨2, _⟩ => ⟨S512x512, .f32⟩
  | .local _ .vmem, ⟨0, _⟩ => ⟨S1x2048x512, .f32⟩
  | .local _ .vmem, ⟨1, _⟩ => ⟨S512, .f32⟩
  | .local _ .vmem, ⟨2, _⟩ => ⟨S512x512, .f32⟩
  | .local _ .vmem, ⟨3, _⟩ => ⟨S2x3x256x128, .f32⟩
  | .local _ .vmem, ⟨4, _⟩ => ⟨S2x3x256x128, .f32⟩
  | .local _ .vmem, ⟨5, _⟩ => ⟨S4x512x128, .f32⟩
  | _, _ => ⟨S1x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  (ofTc nBuf bufTy 1 27 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_sem0_0 : DmaSem sig := 0
abbrev cc0_sem1_0 : DmaSem sig := 1
abbrev cc0_sem2_0 : DmaSem sig := 2
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_11 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_10 : BitVec 32 := 8#32
  let v23 : BitVec 32 := Scalar.muli v2 c8_i32_10
  let v24 : BitVec 32 := Scalar.addi c0_i32_11 v23
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_12 : BitVec 32 := 4#32
  let v25 : BitVec 32 := Scalar.muli v5 c4_i32_12
  let v26 : BitVec 32 := Scalar.addi v24 v25
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v12 : BitVec 32 := Scalar.addi v8 c1_i32_3
  let c4_i32_4 : BitVec 32 := 4#32
  let c0_i32 : BitVec 32 := 0#32
  let v13 : BitVec 1 := Scalar.cmpi .eq c4_i32_4 c0_i32
  let c1_i32_5 : BitVec 32 := 1#32
  let v14 : BitVec 32 := Scalar.select v13 c1_i32_5 c4_i32_4
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let c1_i32_13 : BitVec 32 := 1#32
  let v27 : BitVec 32 := Scalar.muli v22 c1_i32_13
  let v28 : BitVec 32 := Scalar.addi v26 v27
  v28.toNat
def k0_dev2 (d0 : Dev nD) : Nat :=
  let c0_i32_23 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_22 : BitVec 32 := 8#32
  let v40 : BitVec 32 := Scalar.muli v2 c8_i32_22
  let v41 : BitVec 32 := Scalar.addi c0_i32_23 v40
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_24 : BitVec 32 := 4#32
  let v42 : BitVec 32 := Scalar.muli v5 c4_i32_24
  let v43 : BitVec 32 := Scalar.addi v41 v42
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_14 : BitVec 32 := 2#32
  let v29 : BitVec 32 := Scalar.addi v8 c2_i32_14
  let c4_i32_15 : BitVec 32 := 4#32
  let c0_i32_16 : BitVec 32 := 0#32
  let v30 : BitVec 1 := Scalar.cmpi .eq c4_i32_15 c0_i32_16
  let c1_i32_17 : BitVec 32 := 1#32
  let v31 : BitVec 32 := Scalar.select v30 c1_i32_17 c4_i32_15
  let v32 : BitVec 32 := Scalar.remsi v29 v31
  let c0_i32_19 : BitVec 32 := 0#32
  let v34 : BitVec 1 := Scalar.cmpi .slt v32 c0_i32_19
  let c0_i32_20 : BitVec 32 := 0#32
  let v35 : BitVec 1 := Scalar.cmpi .slt v31 c0_i32_20
  let v36 : BitVec 1 := Scalar.xori v34 v35
  let c0_i32_18 : BitVec 32 := 0#32
  let v33 : BitVec 1 := Scalar.cmpi .ne v32 c0_i32_18
  let v37 : BitVec 1 := Scalar.andi v36 v33
  let v38 : BitVec 32 := Scalar.addi v32 v31
  let v39 : BitVec 32 := Scalar.select v37 v38 v32
  let c1_i32_25 : BitVec 32 := 1#32
  let v44 : BitVec 32 := Scalar.muli v39 c1_i32_25
  let v45 : BitVec 32 := Scalar.addi v43 v44
  v45.toNat
def k0_dev3 (d0 : Dev nD) : Nat :=
  let c0_i32_34 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_33 : BitVec 32 := 8#32
  let v57 : BitVec 32 := Scalar.muli v2 c8_i32_33
  let v58 : BitVec 32 := Scalar.addi c0_i32_34 v57
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_35 : BitVec 32 := 4#32
  let v59 : BitVec 32 := Scalar.muli v5 c4_i32_35
  let v60 : BitVec 32 := Scalar.addi v58 v59
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v46 : BitVec 32 := Scalar.addi v8 c3_i32
  let c4_i32_26 : BitVec 32 := 4#32
  let c0_i32_27 : BitVec 32 := 0#32
  let v47 : BitVec 1 := Scalar.cmpi .eq c4_i32_26 c0_i32_27
  let c1_i32_28 : BitVec 32 := 1#32
  let v48 : BitVec 32 := Scalar.select v47 c1_i32_28 c4_i32_26
  let v49 : BitVec 32 := Scalar.remsi v46 v48
  let c0_i32_30 : BitVec 32 := 0#32
  let v51 : BitVec 1 := Scalar.cmpi .slt v49 c0_i32_30
  let c0_i32_31 : BitVec 32 := 0#32
  let v52 : BitVec 1 := Scalar.cmpi .slt v48 c0_i32_31
  let v53 : BitVec 1 := Scalar.xori v51 v52
  let c0_i32_29 : BitVec 32 := 0#32
  let v50 : BitVec 1 := Scalar.cmpi .ne v49 c0_i32_29
  let v54 : BitVec 1 := Scalar.andi v53 v50
  let v55 : BitVec 32 := Scalar.addi v49 v48
  let v56 : BitVec 32 := Scalar.select v54 v55 v49
  let c1_i32_36 : BitVec 32 := 1#32
  let v61 : BitVec 32 := Scalar.muli v56 c1_i32_36
  let v62 : BitVec 32 := Scalar.addi v60 v61
  v62.toNat
def k0_dev4 (d0 : Dev nD) : Nat :=
  let c0_i32_43 : BitVec 32 := 0#32
  let c1_i32_37 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v63 : BitVec 32 := Scalar.subi c1_i32_37 v2
  let c8_i32_42 : BitVec 32 := 8#32
  let v67 : BitVec 32 := Scalar.muli v63 c8_i32_42
  let v68 : BitVec 32 := Scalar.addi c0_i32_43 v67
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_44 : BitVec 32 := 4#32
  let v69 : BitVec 32 := Scalar.muli v5 c4_i32_44
  let v70 : BitVec 32 := Scalar.addi v68 v69
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_45 : BitVec 32 := 1#32
  let v71 : BitVec 32 := Scalar.muli v8 c1_i32_45
  let v72 : BitVec 32 := Scalar.addi v70 v71
  v72.toNat
def k0_dev5 (d0 : Dev nD) : Nat :=
  let c0_i32_48 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_47 : BitVec 32 := 8#32
  let v73 : BitVec 32 := Scalar.muli v2 c8_i32_47
  let v74 : BitVec 32 := Scalar.addi c0_i32_48 v73
  let c1_i32_38 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v64 : BitVec 32 := Scalar.subi c1_i32_38 v5
  let c4_i32_49 : BitVec 32 := 4#32
  let v75 : BitVec 32 := Scalar.muli v64 c4_i32_49
  let v76 : BitVec 32 := Scalar.addi v74 v75
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_50 : BitVec 32 := 1#32
  let v77 : BitVec 32 := Scalar.muli v8 c1_i32_50
  let v78 : BitVec 32 := Scalar.addi v76 v77
  v78.toNat
def k0_dev6 (d0 : Dev nD) : Nat :=
  let c0_i32_53 : BitVec 32 := 0#32
  let c1_i32_39 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v65 : BitVec 32 := Scalar.subi c1_i32_39 v2
  let c8_i32_52 : BitVec 32 := 8#32
  let v79 : BitVec 32 := Scalar.muli v65 c8_i32_52
  let v80 : BitVec 32 := Scalar.addi c0_i32_53 v79
  let c1_i32_40 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v66 : BitVec 32 := Scalar.subi c1_i32_40 v5
  let c4_i32_54 : BitVec 32 := 4#32
  let v81 : BitVec 32 := Scalar.muli v66 c4_i32_54
  let v82 : BitVec 32 := Scalar.addi v80 v81
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_55 : BitVec 32 := 1#32
  let v83 : BitVec 32 := Scalar.muli v8 c1_i32_55
  let v84 : BitVec 32 := Scalar.addi v82 v83
  v84.toNat
def k0_off1 (d0 : Dev nD) (c0_i32_56 : BitVec 32) (c0_i32_64 : BitVec 32) : Fin 3 → Nat :=
  let c0 : Index := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v85 : BitVec 32 := Scalar.addi v8 c0_i32_56
  let c1_i32_57 : BitVec 32 := 1#32
  let v86 : BitVec 32 := Scalar.addi v85 c1_i32_57
  let c4_i32_58 : BitVec 32 := 4#32
  let c0_i32_59 : BitVec 32 := 0#32
  let v87 : BitVec 1 := Scalar.cmpi .eq c4_i32_58 c0_i32_59
  let c1_i32_60 : BitVec 32 := 1#32
  let v88 : BitVec 32 := Scalar.select v87 c1_i32_60 c4_i32_58
  let v89 : BitVec 32 := Scalar.remsi v86 v88
  let c0_i32_62 : BitVec 32 := 0#32
  let v91 : BitVec 1 := Scalar.cmpi .slt v89 c0_i32_62
  let c0_i32_63 : BitVec 32 := 0#32
  let v92 : BitVec 1 := Scalar.cmpi .slt v88 c0_i32_63
  let v93 : BitVec 1 := Scalar.xori v91 v92
  let c0_i32_61 : BitVec 32 := 0#32
  let v90 : BitVec 1 := Scalar.cmpi .ne v89 c0_i32_61
  let v94 : BitVec 1 := Scalar.andi v93 v90
  let v95 : BitVec 32 := Scalar.addi v89 v88
  let v96 : BitVec 32 := Scalar.select v94 v95 v89
  let c512_i32 : BitVec 32 := 512#32
  let v97 : BitVec 32 := Scalar.muli v96 c512_i32
  let v98 : BitVec 32 := Scalar.addi v97 c0_i32_64
  let v100 : Index := Scalar.indexCast v98
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c128_i32 : BitVec 32 := 128#32
  let v99 : BitVec 32 := Scalar.muli v10 c128_i32
  let v101 : Index := Scalar.indexCast v99
  ![0, v100.toNat, v101.toNat]
def k0_dev7 (d0 : Dev nD) : Nat :=
  let c0_i32_78 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_77 : BitVec 32 := 8#32
  let v107 : BitVec 32 := Scalar.muli v2 c8_i32_77
  let v108 : BitVec 32 := Scalar.addi c0_i32_78 v107
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_79 : BitVec 32 := 4#32
  let v109 : BitVec 32 := Scalar.muli v5 c4_i32_79
  let v110 : BitVec 32 := Scalar.addi v108 v109
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_56 : BitVec 32 := 0#32
  let v85 : BitVec 32 := Scalar.addi v8 c0_i32_56
  let c1_i32_57 : BitVec 32 := 1#32
  let v86 : BitVec 32 := Scalar.addi v85 c1_i32_57
  let c4_i32_58 : BitVec 32 := 4#32
  let c0_i32_59 : BitVec 32 := 0#32
  let v87 : BitVec 1 := Scalar.cmpi .eq c4_i32_58 c0_i32_59
  let c1_i32_60 : BitVec 32 := 1#32
  let v88 : BitVec 32 := Scalar.select v87 c1_i32_60 c4_i32_58
  let v89 : BitVec 32 := Scalar.remsi v86 v88
  let c0_i32_62 : BitVec 32 := 0#32
  let v91 : BitVec 1 := Scalar.cmpi .slt v89 c0_i32_62
  let c0_i32_63 : BitVec 32 := 0#32
  let v92 : BitVec 1 := Scalar.cmpi .slt v88 c0_i32_63
  let v93 : BitVec 1 := Scalar.xori v91 v92
  let c0_i32_61 : BitVec 32 := 0#32
  let v90 : BitVec 1 := Scalar.cmpi .ne v89 c0_i32_61
  let v94 : BitVec 1 := Scalar.andi v93 v90
  let v95 : BitVec 32 := Scalar.addi v89 v88
  let v96 : BitVec 32 := Scalar.select v94 v95 v89
  let c1_i32_80 : BitVec 32 := 1#32
  let v111 : BitVec 32 := Scalar.muli v96 c1_i32_80
  let v112 : BitVec 32 := Scalar.addi v110 v111
  v112.toNat
def k0_dev8 (d0 : Dev nD) : Nat :=
  let c0_i32_109 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_108 : BitVec 32 := 8#32
  let v143 : BitVec 32 := Scalar.muli v2 c8_i32_108
  let v144 : BitVec 32 := Scalar.addi c0_i32_109 v143
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_110 : BitVec 32 := 4#32
  let v145 : BitVec 32 := Scalar.muli v5 c4_i32_110
  let v146 : BitVec 32 := Scalar.addi v144 v145
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_85 : BitVec 32 := 1#32
  let v121 : BitVec 32 := Scalar.addi v8 c1_i32_85
  let c1_i32_86 : BitVec 32 := 1#32
  let v122 : BitVec 32 := Scalar.addi v121 c1_i32_86
  let c4_i32_87 : BitVec 32 := 4#32
  let c0_i32_88 : BitVec 32 := 0#32
  let v123 : BitVec 1 := Scalar.cmpi .eq c4_i32_87 c0_i32_88
  let c1_i32_89 : BitVec 32 := 1#32
  let v124 : BitVec 32 := Scalar.select v123 c1_i32_89 c4_i32_87
  let v125 : BitVec 32 := Scalar.remsi v122 v124
  let c0_i32_91 : BitVec 32 := 0#32
  let v127 : BitVec 1 := Scalar.cmpi .slt v125 c0_i32_91
  let c0_i32_92 : BitVec 32 := 0#32
  let v128 : BitVec 1 := Scalar.cmpi .slt v124 c0_i32_92
  let v129 : BitVec 1 := Scalar.xori v127 v128
  let c0_i32_90 : BitVec 32 := 0#32
  let v126 : BitVec 1 := Scalar.cmpi .ne v125 c0_i32_90
  let v130 : BitVec 1 := Scalar.andi v129 v126
  let v131 : BitVec 32 := Scalar.addi v125 v124
  let v132 : BitVec 32 := Scalar.select v130 v131 v125
  let c1_i32_111 : BitVec 32 := 1#32
  let v147 : BitVec 32 := Scalar.muli v132 c1_i32_111
  let v148 : BitVec 32 := Scalar.addi v146 v147
  v148.toNat
def k0_dev9 (d0 : Dev nD) : Nat :=
  let c0_i32_140 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_139 : BitVec 32 := 8#32
  let v179 : BitVec 32 := Scalar.muli v2 c8_i32_139
  let v180 : BitVec 32 := Scalar.addi c0_i32_140 v179
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_141 : BitVec 32 := 4#32
  let v181 : BitVec 32 := Scalar.muli v5 c4_i32_141
  let v182 : BitVec 32 := Scalar.addi v180 v181
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_116 : BitVec 32 := 2#32
  let v157 : BitVec 32 := Scalar.addi v8 c2_i32_116
  let c1_i32_117 : BitVec 32 := 1#32
  let v158 : BitVec 32 := Scalar.addi v157 c1_i32_117
  let c4_i32_118 : BitVec 32 := 4#32
  let c0_i32_119 : BitVec 32 := 0#32
  let v159 : BitVec 1 := Scalar.cmpi .eq c4_i32_118 c0_i32_119
  let c1_i32_120 : BitVec 32 := 1#32
  let v160 : BitVec 32 := Scalar.select v159 c1_i32_120 c4_i32_118
  let v161 : BitVec 32 := Scalar.remsi v158 v160
  let c0_i32_122 : BitVec 32 := 0#32
  let v163 : BitVec 1 := Scalar.cmpi .slt v161 c0_i32_122
  let c0_i32_123 : BitVec 32 := 0#32
  let v164 : BitVec 1 := Scalar.cmpi .slt v160 c0_i32_123
  let v165 : BitVec 1 := Scalar.xori v163 v164
  let c0_i32_121 : BitVec 32 := 0#32
  let v162 : BitVec 1 := Scalar.cmpi .ne v161 c0_i32_121
  let v166 : BitVec 1 := Scalar.andi v165 v162
  let v167 : BitVec 32 := Scalar.addi v161 v160
  let v168 : BitVec 32 := Scalar.select v166 v167 v161
  let c1_i32_142 : BitVec 32 := 1#32
  let v183 : BitVec 32 := Scalar.muli v168 c1_i32_142
  let v184 : BitVec 32 := Scalar.addi v182 v183
  v184.toNat
def k0_dev10 (d0 : Dev nD) : Nat :=
  let c0_i32_171 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_170 : BitVec 32 := 8#32
  let v215 : BitVec 32 := Scalar.muli v2 c8_i32_170
  let v216 : BitVec 32 := Scalar.addi c0_i32_171 v215
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_172 : BitVec 32 := 4#32
  let v217 : BitVec 32 := Scalar.muli v5 c4_i32_172
  let v218 : BitVec 32 := Scalar.addi v216 v217
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_147 : BitVec 32 := 0#32
  let v193 : BitVec 32 := Scalar.addi v8 c0_i32_147
  let c1_i32_148 : BitVec 32 := 1#32
  let v194 : BitVec 32 := Scalar.addi v193 c1_i32_148
  let c4_i32_149 : BitVec 32 := 4#32
  let c0_i32_150 : BitVec 32 := 0#32
  let v195 : BitVec 1 := Scalar.cmpi .eq c4_i32_149 c0_i32_150
  let c1_i32_151 : BitVec 32 := 1#32
  let v196 : BitVec 32 := Scalar.select v195 c1_i32_151 c4_i32_149
  let v197 : BitVec 32 := Scalar.remsi v194 v196
  let c0_i32_153 : BitVec 32 := 0#32
  let v199 : BitVec 1 := Scalar.cmpi .slt v197 c0_i32_153
  let c0_i32_154 : BitVec 32 := 0#32
  let v200 : BitVec 1 := Scalar.cmpi .slt v196 c0_i32_154
  let v201 : BitVec 1 := Scalar.xori v199 v200
  let c0_i32_152 : BitVec 32 := 0#32
  let v198 : BitVec 1 := Scalar.cmpi .ne v197 c0_i32_152
  let v202 : BitVec 1 := Scalar.andi v201 v198
  let v203 : BitVec 32 := Scalar.addi v197 v196
  let v204 : BitVec 32 := Scalar.select v202 v203 v197
  let c1_i32_173 : BitVec 32 := 1#32
  let v219 : BitVec 32 := Scalar.muli v204 c1_i32_173
  let v220 : BitVec 32 := Scalar.addi v218 v219
  v220.toNat
def k0_dev11 (d0 : Dev nD) : Nat :=
  let c0_i32_203 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_202 : BitVec 32 := 8#32
  let v251 : BitVec 32 := Scalar.muli v2 c8_i32_202
  let v252 : BitVec 32 := Scalar.addi c0_i32_203 v251
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_204 : BitVec 32 := 4#32
  let v253 : BitVec 32 := Scalar.muli v5 c4_i32_204
  let v254 : BitVec 32 := Scalar.addi v252 v253
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_178 : BitVec 32 := 1#32
  let v229 : BitVec 32 := Scalar.addi v8 c1_i32_178
  let c1_i32_179 : BitVec 32 := 1#32
  let v230 : BitVec 32 := Scalar.addi v229 c1_i32_179
  let c4_i32_180 : BitVec 32 := 4#32
  let c0_i32_181 : BitVec 32 := 0#32
  let v231 : BitVec 1 := Scalar.cmpi .eq c4_i32_180 c0_i32_181
  let c1_i32_182 : BitVec 32 := 1#32
  let v232 : BitVec 32 := Scalar.select v231 c1_i32_182 c4_i32_180
  let v233 : BitVec 32 := Scalar.remsi v230 v232
  let c0_i32_184 : BitVec 32 := 0#32
  let v235 : BitVec 1 := Scalar.cmpi .slt v233 c0_i32_184
  let c0_i32_185 : BitVec 32 := 0#32
  let v236 : BitVec 1 := Scalar.cmpi .slt v232 c0_i32_185
  let v237 : BitVec 1 := Scalar.xori v235 v236
  let c0_i32_183 : BitVec 32 := 0#32
  let v234 : BitVec 1 := Scalar.cmpi .ne v233 c0_i32_183
  let v238 : BitVec 1 := Scalar.andi v237 v234
  let v239 : BitVec 32 := Scalar.addi v233 v232
  let v240 : BitVec 32 := Scalar.select v238 v239 v233
  let c1_i32_205 : BitVec 32 := 1#32
  let v255 : BitVec 32 := Scalar.muli v240 c1_i32_205
  let v256 : BitVec 32 := Scalar.addi v254 v255
  v256.toNat
def k0_dev12 (d0 : Dev nD) : Nat :=
  let c0_i32_235 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_234 : BitVec 32 := 8#32
  let v287 : BitVec 32 := Scalar.muli v2 c8_i32_234
  let v288 : BitVec 32 := Scalar.addi c0_i32_235 v287
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_236 : BitVec 32 := 4#32
  let v289 : BitVec 32 := Scalar.muli v5 c4_i32_236
  let v290 : BitVec 32 := Scalar.addi v288 v289
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_210 : BitVec 32 := 2#32
  let v265 : BitVec 32 := Scalar.addi v8 c2_i32_210
  let c1_i32_211 : BitVec 32 := 1#32
  let v266 : BitVec 32 := Scalar.addi v265 c1_i32_211
  let c4_i32_212 : BitVec 32 := 4#32
  let c0_i32_213 : BitVec 32 := 0#32
  let v267 : BitVec 1 := Scalar.cmpi .eq c4_i32_212 c0_i32_213
  let c1_i32_214 : BitVec 32 := 1#32
  let v268 : BitVec 32 := Scalar.select v267 c1_i32_214 c4_i32_212
  let v269 : BitVec 32 := Scalar.remsi v266 v268
  let c0_i32_216 : BitVec 32 := 0#32
  let v271 : BitVec 1 := Scalar.cmpi .slt v269 c0_i32_216
  let c0_i32_217 : BitVec 32 := 0#32
  let v272 : BitVec 1 := Scalar.cmpi .slt v268 c0_i32_217
  let v273 : BitVec 1 := Scalar.xori v271 v272
  let c0_i32_215 : BitVec 32 := 0#32
  let v270 : BitVec 1 := Scalar.cmpi .ne v269 c0_i32_215
  let v274 : BitVec 1 := Scalar.andi v273 v270
  let v275 : BitVec 32 := Scalar.addi v269 v268
  let v276 : BitVec 32 := Scalar.select v274 v275 v269
  let c1_i32_237 : BitVec 32 := 1#32
  let v291 : BitVec 32 := Scalar.muli v276 c1_i32_237
  let v292 : BitVec 32 := Scalar.addi v290 v291
  v292.toNat
def k0_off2 (d0 : Dev nD) (c0_i32_330 : BitVec 32) : Fin 3 → Nat :=
  let c0_332 : Index := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c512_i32_329 : BitVec 32 := 512#32
  let v355 : BitVec 32 := Scalar.muli v8 c512_i32_329
  let v356 : BitVec 32 := Scalar.addi v355 c0_i32_330
  let v358 : Index := Scalar.indexCast v356
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c128_i32_331 : BitVec 32 := 128#32
  let v357 : BitVec 32 := Scalar.muli v10 c128_i32_331
  let v359 : Index := Scalar.indexCast v357
  ![0, v358.toNat, v359.toNat]
def k0_off3 (d0 : Dev nD) : Fin 3 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let v371 : Index := Scalar.indexCast v10
  let c0_345 : Index := 0#32
  let c0_346 : Index := 0#32
  ![v371.toNat, 0, 0]
def k0_off4 (d0 : Dev nD) : Fin 3 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c0_i32_355 : BitVec 32 := 0#32
  let c0_i32_356 : BitVec 32 := 0#32
  ![v10.toNat, 0, 0]
def k0_dev13 (d0 : Dev nD) : Nat :=
  let c0_i32_352 : BitVec 32 := 0#32
  let c1_i32_37 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v63 : BitVec 32 := Scalar.subi c1_i32_37 v2
  let c8_i32_351 : BitVec 32 := 8#32
  let v375 : BitVec 32 := Scalar.muli v63 c8_i32_351
  let v376 : BitVec 32 := Scalar.addi c0_i32_352 v375
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_353 : BitVec 32 := 4#32
  let v377 : BitVec 32 := Scalar.muli v5 c4_i32_353
  let v378 : BitVec 32 := Scalar.addi v376 v377
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_354 : BitVec 32 := 1#32
  let v379 : BitVec 32 := Scalar.muli v8 c1_i32_354
  let v380 : BitVec 32 := Scalar.addi v378 v379
  v380.toNat
def k0_dev14 (d0 : Dev nD) : Nat :=
  let c0_i32_364 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_363 : BitVec 32 := 8#32
  let v389 : BitVec 32 := Scalar.muli v2 c8_i32_363
  let v390 : BitVec 32 := Scalar.addi c0_i32_364 v389
  let c1_i32_38 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v64 : BitVec 32 := Scalar.subi c1_i32_38 v5
  let c4_i32_365 : BitVec 32 := 4#32
  let v391 : BitVec 32 := Scalar.muli v64 c4_i32_365
  let v392 : BitVec 32 := Scalar.addi v390 v391
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_366 : BitVec 32 := 1#32
  let v393 : BitVec 32 := Scalar.muli v8 c1_i32_366
  let v394 : BitVec 32 := Scalar.addi v392 v393
  v394.toNat
def k0_dev15 (d0 : Dev nD) : Nat :=
  let c0_i32_376 : BitVec 32 := 0#32
  let c1_i32_39 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v65 : BitVec 32 := Scalar.subi c1_i32_39 v2
  let c8_i32_375 : BitVec 32 := 8#32
  let v403 : BitVec 32 := Scalar.muli v65 c8_i32_375
  let v404 : BitVec 32 := Scalar.addi c0_i32_376 v403
  let c1_i32_40 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v66 : BitVec 32 := Scalar.subi c1_i32_40 v5
  let c4_i32_377 : BitVec 32 := 4#32
  let v405 : BitVec 32 := Scalar.muli v66 c4_i32_377
  let v406 : BitVec 32 := Scalar.addi v404 v405
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_378 : BitVec 32 := 1#32
  let v407 : BitVec 32 := Scalar.muli v8 c1_i32_378
  let v408 : BitVec 32 := Scalar.addi v406 v407
  v408.toNat
def k0_off5 (d0 : Dev nD) : Fin 3 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let v487 : Index := Scalar.indexCast v10
  let c256 : Index := 256#32
  let c0_486 : Index := 0#32
  ![v487.toNat, 256, 0]
def k0_off6 (d0 : Dev nD) : Fin 3 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c256_i32_495 : BitVec 32 := 256#32
  let c0_i32_496 : BitVec 32 := 0#32
  ![v10.toNat, 256, 0]
def k0_dev16 (d0 : Dev nD) : Nat :=
  let c0_i32_492 : BitVec 32 := 0#32
  let c1_i32_37 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v63 : BitVec 32 := Scalar.subi c1_i32_37 v2
  let c8_i32_491 : BitVec 32 := 8#32
  let v491 : BitVec 32 := Scalar.muli v63 c8_i32_491
  let v492 : BitVec 32 := Scalar.addi c0_i32_492 v491
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_493 : BitVec 32 := 4#32
  let v493 : BitVec 32 := Scalar.muli v5 c4_i32_493
  let v494 : BitVec 32 := Scalar.addi v492 v493
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_494 : BitVec 32 := 1#32
  let v495 : BitVec 32 := Scalar.muli v8 c1_i32_494
  let v496 : BitVec 32 := Scalar.addi v494 v495
  v496.toNat
def k0_dev17 (d0 : Dev nD) : Nat :=
  let c0_i32_504 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_503 : BitVec 32 := 8#32
  let v505 : BitVec 32 := Scalar.muli v2 c8_i32_503
  let v506 : BitVec 32 := Scalar.addi c0_i32_504 v505
  let c1_i32_38 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v64 : BitVec 32 := Scalar.subi c1_i32_38 v5
  let c4_i32_505 : BitVec 32 := 4#32
  let v507 : BitVec 32 := Scalar.muli v64 c4_i32_505
  let v508 : BitVec 32 := Scalar.addi v506 v507
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_506 : BitVec 32 := 1#32
  let v509 : BitVec 32 := Scalar.muli v8 c1_i32_506
  let v510 : BitVec 32 := Scalar.addi v508 v509
  v510.toNat
def k0_dev18 (d0 : Dev nD) : Nat :=
  let c0_i32_516 : BitVec 32 := 0#32
  let c1_i32_39 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v65 : BitVec 32 := Scalar.subi c1_i32_39 v2
  let c8_i32_515 : BitVec 32 := 8#32
  let v519 : BitVec 32 := Scalar.muli v65 c8_i32_515
  let v520 : BitVec 32 := Scalar.addi c0_i32_516 v519
  let c1_i32_40 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v66 : BitVec 32 := Scalar.subi c1_i32_40 v5
  let c4_i32_517 : BitVec 32 := 4#32
  let v521 : BitVec 32 := Scalar.muli v66 c4_i32_517
  let v522 : BitVec 32 := Scalar.addi v520 v521
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_518 : BitVec 32 := 1#32
  let v523 : BitVec 32 := Scalar.muli v8 c1_i32_518
  let v524 : BitVec 32 := Scalar.addi v522 v523
  v524.toNat
abbrev stage0_0 : Fin 1 → Memref sig .tc .vmem S1x2048x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4x2048x512 : Shape := ⟨3, ![4, 2048, 512]⟩
abbrev S512 : Shape := ⟨1, ![512]⟩
abbrev S_ : Shape := ⟨0, ![]⟩
abbrev S2048x512 : Shape := ⟨2, ![2048, 512]⟩
abbrev S2048 : Shape := ⟨1, ![2048]⟩
abbrev S2048x1 : Shape := ⟨2, ![2048, 1]⟩
abbrev S1x512 : Shape := ⟨2, ![1, 512]⟩

abbrev nBuf : Space → Nat
  | .hbm => 20
  | .vmem => 0
  | .smem => 0
  | _ => 0

abbrev bufTy : (tb : Table) → Fin (tcTables nBuf tb) → BufTy
  | .hbm, ⟨0, _⟩ => ⟨S4x2048x512, .f32⟩
  | .hbm, ⟨1, _⟩ => ⟨S512, .f32⟩
  | .hbm, ⟨2, _⟩ => ⟨S_, .f32⟩
  | .hbm, ⟨3, _⟩ => ⟨S2048x512, .f32⟩
  | .hbm, ⟨4, _⟩ => ⟨S2048x512, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x512, .f32⟩
  | .hbm, ⟨16, _⟩ => ⟨S2048x512, .f32⟩
  | .hbm, ⟨17, _⟩ => ⟨S1x512, .f32⟩
  | .hbm, ⟨18, _⟩ => ⟨S2048x512, .f32⟩
  | .hbm, ⟨19, _⟩ => ⟨S2048x512, .f32⟩
  | _, _ => ⟨S4x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_cst_2 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Proof.KernelIdealRun.Proto.lean ====
/-
# The protocol of the kernel's transfers

Sixteen devices on a mesh of `x = 2`, `y = 2`, `z = 4`: device `4 * q + z` lies in column `q = 2 * x + y` of plane `z`.
Each device owns one barrier cell, and for each of the four families of transfer semaphores (sends along `z`, arrivals
along `z`, sends inside a plane, arrivals inside a plane) one cell for each segment `s < 2` and peer `j < 3`.

This file states who the peers are, what every buffer holds when the kernel is done with it, what each completion hands
over (the schedule), what a device owes at launch, and the order of the cells that makes every wait safe.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.PointwiseCore
public import Idealize.ShloMosaic.Lib.Tactic

@[expose] public section

noncomputable section

namespace Cert.KernelIdealRun

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy and the transfers' (six duty names) -/

abbrev UB : Type := URounds (GSem nD τ sig) (Fin 6)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every counter zero, arbitrary generator registers. -/
def s₀ : MemSt nD τ sig (Elt F) := ⟨m, fun _ => 0, ρ⟩

/-! ## The mesh -/

/-- The device `k` steps further along `z`, in the same column. -/
def zp (k : ℕ) (c : Dev nD) : Dev nD := ⟨4 * (c.val / 4) + (c.val % 4 + k) % 4, by have := c.isLt; show _ < 16; have : c.val < 16 := c.isLt; omega⟩
/-- The device of column `q` in the plane of `c`. -/
def pl (q : ℕ) (c : Dev nD) : Dev nD := ⟨4 * (q % 4) + c.val % 4, by show _ < 16; omega⟩
/-- The column of the `j`-th peer of column `q` inside a plane: the other `x`, the other `y`, both. -/
def qx (j q : ℕ) : ℕ := if j = 0 then (q + 2) % 4 else if j = 1 then (if q % 2 = 0 then q + 1 else q - 1) else 3 - q
/-- The `j`-th peer inside the plane. -/
def xyp (j : ℕ) (c : Dev nD) : Dev nD := pl (qx j (c.val / 4)) c

theorem zp_back {k k' : ℕ} (h : (k + k') % 4 = 0) (c : Dev nD) : zp k' (zp k c) = c := by
  apply Fin.ext; simp only [zp]; have : c.val < 16 := c.isLt; omega
theorem xyp_xyp {j : ℕ} (hj : j < 3) (c : Dev nD) : xyp j (xyp j c) = c := by
  revert c; interval_cases j <;> decide
theorem pl_self (c : Dev nD) : pl (c.val / 4) c = c := by revert c; decide
theorem pl_xyp (q j : ℕ) (c : Dev nD) : pl q (xyp j c) = pl q c := by
  apply Fin.ext; simp only [xyp, pl]; omega
theorem xyp_col {j : ℕ} (hj : j < 3) (c : Dev nD) : (xyp j c).val / 4 = qx j (c.val / 4) := by
  revert c; interval_cases j <;> decide
theorem xyp_mod (j : ℕ) (c : Dev nD) : (xyp j c).val % 4 = c.val % 4 := by
  simp only [xyp, pl]; omega

/-- Stepping `k` along `z`, as a permutation. -/
def zEquiv (k k' : ℕ) (h : (k + k') % 4 = 0) : Dev nD ≃ Dev nD := ⟨zp k, zp k', zp_back h, zp_back (by omega)⟩
/-- The `j`-th peer inside the plane, as a permutation. -/
def xyEquiv (j : ℕ) (hj : j < 3) : Dev nD ≃ Dev nD := ⟨xyp j, xyp j, xyp_xyp hj, xyp_xyp hj⟩

/-! ## Memrefs and cells -/

abbrev xM : Memref sig .tc .vmem S1x2048x512 .f32 := Memref.whole cc0_stg0_0
abbrev gM : Memref sig .tc .vmem S512 .f32 := Memref.whole cc0_stg1_0
abbrev oM : Memref sig .tc .vmem S512x512 .f32 := Memref.whole cc0_stg2_0
abbrev sM : Memref sig .tc .vmem S2x3x256x128 .f32 := Memref.whole cc0_scratch0
abbrev rM : Memref sig .tc .vmem S2x3x256x128 .f32 := Memref.whole cc0_scratch1
abbrev aM : Memref sig .tc .vmem S4x512x128 .f32 := Memref.whole cc0_scratch2

/-- The barrier semaphore. -/
abbrev barS : Sem sig := (SemArray.scalar (sig.barrier 0 rfl) : Sems sig S_).sem
/-- The `n`-th transfer semaphore: family `n / 6` (0 sends along `z`, 1 arrivals along `z`, 2 sends in the plane, 3
    arrivals in the plane), segment `n % 6 / 3`, peer `n % 3`. -/
def dsem (n : ℕ) : DmaSem sig := (⟨(3 + n) % 27, Nat.mod_lt _ (by decide)⟩ : Fin 27)

abbrev barCell (c : Dev nD) : GSem nD τ sig := ((c : Thread nD τ), .reg barS)
abbrev dcell (c : Dev nD) (n : ℕ) : GSem nD τ sig := ((c : Thread nD τ), .dma (dsem n))

/-- All of a device's protocol cells: the barrier, then the twenty-four transfer cells. -/
def csem (k : Fin 25) : SemLoc sig := if k.val = 0 then .reg barS else .dma (dsem (k.val - 1))
abbrev kcell (ck : Dev nD × Fin 25) : GSem nD τ sig := ((ck.1 : Thread nD τ), csem ck.2)

/-- The credit of one transfer. -/
def N : ℕ := (((rM : Memref sig .tc .vmem S2x3x256x128 .f32).slice (Rect.unit (s := S2x3x256x128) ![0, 0, 0, 0] S1x1x256x128.size inb_S2x3x256x128_S1x1x256x128_0_0_0_0) (fun _ => rfl)).squeeze S256x128 squeezes_S1x1x256x128_S256x128).view.dmaCredit
theorem N_pos : 0 < N := View.dmaCredit_pos _ (by decide)

/-! ## Contents -/

/-- Device `c`'s block of the partial sums, as it is staged. -/
def xstg (c : Dev nD) : (cc0_stg0_0 : Ref sig .tc).ty.Contents (Elt F) :=
  (win0_0.blk (0 : Fin 1)).view.read (Elt F) ((s₀ m ρ).mem ((c : Thread nD τ).loc main_arg0))
/-- Device `c`'s copy of gamma, as it is staged. -/
def gstg (c : Dev nD) : (cc0_stg1_0 : Ref sig .tc).ty.Contents (Elt F) :=
  (win0_1.blk (0 : Fin 1)).view.read (Elt F) ((s₀ m ρ).mem ((c : Thread nD τ).loc main_arg1))

/-- The partial sum device `c` holds at a row and a column. -/
def xat (c : Dev nD) (row col : ℕ) : F .f32 :=
  (show S1x2048x512.Idx → F .f32 from xstg m ρ c) (ix3 0 ⟨row % 2048, Nat.mod_lt _ (by decide)⟩ ⟨col % 512, Nat.mod_lt _ (by decide)⟩)

/-- What device `c` stages for sending along `z`: slot `(s, j)` is its part of the block of the plane `j + 1` further. -/
def ZS (c : Dev nD) : S2x3x256x128.Idx → Elt F .f32 := fun i =>
  xat m ρ c (512 * ((c.val % 4 + (i 1).val + 1) % 4) + 256 * (i 0).val + (i 2).val) (128 * (c.val / 4) + (i 3).val)
/-- What has arrived at device `c` along `z`: slot `(s, j)` comes from the plane `j + 1` back. -/
def ZR (c : Dev nD) : S2x3x256x128.Idx → Elt F .f32 := fun i => ZS m ρ (zp (3 - (i 1).val) c) i

/-- The sum of the four planes' parts, in the order device `d` adds them. -/
def qsum (d : Dev nD) (row col : ℕ) : F .f32 :=
  FloatOps.addf (FloatOps.addf (FloatOps.addf (xat m ρ d row col) (xat m ρ (zp 3 d) row col)) (xat m ρ (zp 2 d) row col)) (xat m ρ (zp 1 d) row col)
/-- What the accumulator of device `c` holds at the end: the summed block of its plane, column quarter by column quarter,
    the quarter `q` summed by the device of column `q`. The same on all devices of a plane. -/
def QA (c : Dev nD) : S4x512x128.Idx → Elt F .f32 := fun i =>
  qsum m ρ (pl (i 0).val c) (512 * (c.val % 4) + (i 1).val) (128 * (i 0).val + (i 2).val)

theorem QA_xyp (j : ℕ) (c : Dev nD) : QA m ρ (xyp j c) = QA m ρ c := by
  funext i; unfold QA; rw [pl_xyp, xyp_mod]

/-! ## Slots -/

/-- The elements of slot `(s, j)` of a buffer of the `z` exchange. -/
def zset (s j : ℕ) : Finset S2x3x256x128.Idx := Finset.univ.filter fun i => (i 0).val = s ∧ (i 1).val = j
/-- The elements of segment `s` of column quarter `q` of the accumulator. -/
def qset (q s : ℕ) : Finset S4x512x128.Idx := Finset.univ.filter fun i => (i 0).val = q ∧ (i 1).val / 256 = s

def zsPts (c : Dev nD) (s j : ℕ) (f : S2x3x256x128.Idx → Elt F .f32) : sProp 𝕄 :=
  ((c : Thread nD τ).loc cc0_scratch0) ↦[(zset s j : Finset S2x3x256x128.Idx)]{fullShare} (f : Buf (Elt F) ((c : Thread nD τ).loc cc0_scratch0))
def zrPts (c : Dev nD) (s j : ℕ) (f : S2x3x256x128.Idx → Elt F .f32) : sProp 𝕄 :=
  ((c : Thread nD τ).loc cc0_scratch1) ↦[(zset s j : Finset S2x3x256x128.Idx)]{fullShare} (f : Buf (Elt F) ((c : Thread nD τ).loc cc0_scratch1))
def qPts (c : Dev nD) (q s : ℕ) (sh : PosShare TreeShare) (f : S4x512x128.Idx → Elt F .f32) : sProp 𝕄 :=
  ((c : Thread nD τ).loc cc0_scratch2) ↦[(qset q s : Finset S4x512x128.Idx)]{sh} (f : Buf (Elt F) ((c : Thread nD τ).loc cc0_scratch2))

/-- The share of its own accumulator segment that a device lends to its `j`-th send in the plane. -/
def qsh (j : ℕ) : PosShare TreeShare := if j = 0 then fullShare.left else if j = 1 then fullShare.right.left else fullShare.right.right

omit [FloatOps F] in
instance zsPts_storable (c : Dev nD) (s j : ℕ) (f) : BI.Storable (upEmb : UEmb _ 𝕄) (zsPts (F := F) c s j f) := by unfold zsPts; infer_instance
omit [FloatOps F] in
instance zrPts_storable (c : Dev nD) (s j : ℕ) (f) : BI.Storable (upEmb : UEmb _ 𝕄) (zrPts (F := F) c s j f) := by unfold zrPts; infer_instance
omit [FloatOps F] in
instance qPts_storable (c : Dev nD) (q s : ℕ) (sh) (f) : BI.Storable (upEmb : UEmb _ 𝕄) (qPts (F := F) c q s sh f) := by unfold qPts; infer_instance

/-! ## The schedule -/

/-- What duty `d` of `c`'s barrier cell hands `c`. Duty `d < 3`, paid by the device `d + 1` further along `z`: that
    device's two arrival slots that `c` fills. Duty `3 + j`, paid by the `j`-th peer in the plane: that peer's accumulator
    quarter of `c`'s column, which `c` fills. -/
def barPay (c : Dev nD) (d : Fin 6) : sProp 𝕄 :=
  if d.val < 3 then iprop((∃ f, zrPts (zp (d.val + 1) c) 0 d.val f) ∗ (∃ f, zrPts (zp (d.val + 1) c) 1 d.val f))
  else iprop((∃ f, qPts (xyp (d.val - 3) c) (c.val / 4) 0 fullShare f) ∗ (∃ f, qPts (xyp (d.val - 3) c) (c.val / 4) 1 fullShare f))

/-- What the completion of a transfer hands the owner of its cell. -/
def xferPay (c : Dev nD) (n : ℕ) : sProp 𝕄 :=
  if n / 6 = 0 then zsPts c (n % 6 / 3) (n % 3) (ZS m ρ c)
  else if n / 6 = 1 then zrPts c (n % 6 / 3) (n % 3) (ZR m ρ c)
  else if n / 6 = 2 then qPts c (c.val / 4) (n % 6 / 3) (qsh (n % 3)) (QA m ρ c)
  else qPts c (qx (n % 3) (c.val / 4)) (n % 6 / 3) fullShare (QA m ρ c)

abbrev IsBar (g : GSem nD τ sig) : Prop := g.1.2 = .tc ∧ g.2 = .reg barS
/-- The transfer number of a cell, if it is one of ours. -/
def xnum (sm : SemLoc sig) : ℕ := match sm with | .reg _ => 0 | .dma n => (show Fin 27 from n).val - 3
def isXfer (sm : SemLoc sig) : Prop := match sm with | .reg _ => False | .dma n => 3 ≤ (show Fin 27 from n).val
instance (sm : SemLoc sig) : Decidable (isXfer sm) := by unfold isXfer; split <;> infer_instance

/-- One round: a barrier cell has six duties of one unit each, a transfer cell one duty of the transfer's credit. -/
def Rd : Rounds.Schedule (GSem nD τ sig) (Fin 6) 𝕄 where
  duties g r := if r = 0 ∧ IsBar g then Finset.univ else if r = 0 ∧ g.1.2 = .tc ∧ isXfer g.2 then {0} else ∅
  unitless _ := False
  amount g _ _ := if g.2 = .reg barS then 1 else N
  payload g _ d := if g.2 = .reg barS then barPay g.1.1 d else xferPay m ρ g.1.1 (xnum g.2)
  amount_pos g _ _ _ := by
    by_cases h : g.2 = .reg barS
    · rw [if_pos h]; exact Nat.one_pos
    · rw [if_neg h]; exact N_pos

instance Rd_payload_storable (g : GSem nD τ sig) (r : ℕ) (d : Fin 6) :
    BI.Storable (upEmb : UEmb _ 𝕄) ((Rd (F := F) m ρ).payload g r d) := by
  show BI.Storable upEmb (if g.2 = .reg barS then barPay g.1.1 d else xferPay m ρ g.1.1 (xnum g.2))
  unfold barPay xferPay
  (repeat' split) <;> infer_instance

section Sched
variable (c : Dev nD)

theorem dma_ne_bar (n : DmaSem sig) : (SemLoc.dma n : SemLoc sig) ≠ .reg barS := fun h => by cases h
theorem isXfer_dsem {n : ℕ} (hn : n < 24) : isXfer (.dma (dsem n)) := by
  show 3 ≤ (3 + n) % 27; omega
theorem xnum_dsem {n : ℕ} (hn : n < 24) : xnum (.dma (dsem n)) = n := by
  show (3 + n) % 27 - 3 = n; omega

theorem duties_bar : (Rd m ρ).duties (barCell c) 0 = Finset.univ := by dsimp only [Rd]; exact if_pos ⟨rfl, rfl, rfl⟩
theorem duties_dma {n : ℕ} (hn : n < 24) : (Rd m ρ).duties (dcell c n) 0 = {0} := by
  dsimp only [Rd]; rw [if_neg (fun h => dma_ne_bar _ h.2.2)]; exact if_pos ⟨rfl, rfl, isXfer_dsem hn⟩
theorem duties_later (g : GSem nD τ sig) : ∀ r, 1 ≤ r → (Rd m ρ).duties g r = ∅ :=
  fun r hr => by dsimp only [Rd]; rw [if_neg fun h => by omega, if_neg fun h => by omega]

theorem amount_bar (d : Fin 6) : (Rd m ρ).amount (barCell c) 0 d = 1 := by dsimp only [Rd]; exact if_pos rfl
theorem amount_dma (n : ℕ) (d : Fin 6) : (Rd m ρ).amount (dcell c n) 0 d = N := by dsimp only [Rd]; exact if_neg (dma_ne_bar _)

theorem expect_bar : (Rd m ρ).expect (barCell c) 0 = 6 := by
  unfold Schedule.expect Schedule.amountOf
  rw [duties_bar, Finset.sum_congr rfl fun d _ => amount_bar m ρ c d, Finset.sum_const, Finset.card_univ, Fintype.card_fin, smul_eq_mul]
theorem expect_dma {n : ℕ} (hn : n < 24) : (Rd m ρ).expect (dcell c n) 0 = N := by
  unfold Schedule.expect Schedule.amountOf; rw [duties_dma m ρ c hn, Finset.sum_singleton, amount_dma]

theorem payload_bar (d : Fin 6) : (Rd m ρ).payload (barCell c) 0 d = barPay c d := by dsimp only [Rd]; exact if_pos rfl
theorem payload_dma {n : ℕ} (hn : n < 24) (d : Fin 6) : (Rd m ρ).payload (dcell c n) 0 d = xferPay m ρ c n := by
  dsimp only [Rd]; rw [if_neg (dma_ne_bar _), xnum_dsem hn]

/-- The whole of a barrier cell's round: the six payloads. -/
theorem rest_bar : bigSep ((Rd m ρ).duties (barCell c) 0 \ ∅) (fun d => (Rd m ρ).payload (barCell c) 0 d)
    = iprop(barPay c 0 ∗ barPay c 1 ∗ barPay c 2 ∗ barPay c 3 ∗ barPay c 4 ∗ barPay c 5) := by
  rw [Finset.sdiff_empty, duties_bar, bigSep_congr (fun d _ => payload_bar m ρ c d), bigSep_univ_eq_bigSepL [0, 1, 2, 3, 4, 5] (by decide) (by decide)]
  rfl
/-- The whole of a transfer cell's round: its payload. -/
theorem rest_dma {n : ℕ} (hn : n < 24) : bigSep ((Rd m ρ).duties (dcell c n) 0 \ ∅) (fun d => (Rd m ρ).payload (dcell c n) 0 d) = xferPay m ρ c n := by
  rw [Finset.sdiff_empty, duties_dma m ρ c hn, bigSep_singleton, payload_dma m ρ c hn]

end Sched

/-! ## What a device owes at launch; the levels -/

/-- The sum of a list of debts, the first of the list the last summand. -/
def tal : List (GSem nD τ sig × ℕ) → CellTallies nD τ sig Unit
  | [] => 0
  | p :: l => tal l + tallyAt p.1 () p.2

/-- The transfer number of family `t`, segment `s`, peer `j`. -/
abbrev xn (t s j : ℕ) : ℕ := 6 * t + 3 * s + j

/-- The arrivals in the plane a device owes its peers, in the order it sends them. -/
def duesQ (c : Dev nD) : List (GSem nD τ sig × ℕ) :=
  [(dcell (xyp 0 c) (xn 3 0 0), N), (dcell (xyp 1 c) (xn 3 0 1), N), (dcell (xyp 2 c) (xn 3 0 2), N),
   (dcell (xyp 0 c) (xn 3 1 0), N), (dcell (xyp 1 c) (xn 3 1 1), N), (dcell (xyp 2 c) (xn 3 1 2), N)]
/-- The arrivals along `z` a device owes, then those in the plane. -/
def duesZ (c : Dev nD) : List (GSem nD τ sig × ℕ) :=
  [(dcell (zp 1 c) (xn 1 0 0), N), (dcell (zp 2 c) (xn 1 0 1), N), (dcell (zp 3 c) (xn 1 0 2), N),
   (dcell (zp 1 c) (xn 1 1 0), N), (dcell (zp 2 c) (xn 1 1 1), N), (dcell (zp 3 c) (xn 1 1 2), N)] ++ duesQ c
/-- All a device owes: the six barrier units, then the arrivals. -/
def dues (c : Dev nD) : List (GSem nD τ sig × ℕ) :=
  [(barCell (zp 1 c), 1), (barCell (zp 2 c), 1), (barCell (zp 3 c), 1), (barCell (xyp 0 c), 1), (barCell (xyp 1 c), 1), (barCell (xyp 2 c), 1)] ++ duesZ c

def O₀ (c : Dev nD) : CellTallies nD τ sig Unit := tal (dues c)

def L (g : GSem nD τ sig) : Finset Unit := if g.1.2 = .tc then {()} else ∅
/-- Levels of the semaphores: the barrier 1, arrivals along `z` 2, arrivals in the plane 3, the rest 0. -/
def lvs (sm : SemLoc sig) : ℕ := match sm with
  | .reg _ => 1
  | .dma n => let k := (show Fin 27 from n).val; if 9 ≤ k ∧ k < 15 then 2 else if 21 ≤ k then 3 else 0
def lv (g : GSem nD τ sig) (_ : Unit) : ℕ := lvs g.2

theorem L_of_ne (g : GSem nD τ sig) (h : g.1.2 ≠ .tc) : L g = ∅ := if_neg h
theorem L_tc (c : Dev nD) (sm : SemLoc sig) : L ((c : Thread nD τ), sm) = {()} := if_pos rfl

theorem tal_pos : ∀ (l : List (GSem nD τ sig × ℕ)) {g : GSem nD τ sig} {u : Unit}, 0 < tal l g u → ∃ p ∈ l, g = p.1
  | [], g, u, h => absurd h (Nat.lt_irrefl 0)
  | p :: l, g, u, h => by
    unfold tal at h
    rw [Pi.add_apply, Finsupp.add_apply, tallyAt_apply] at h
    by_cases hg : g = p.1 ∧ u = ()
    · exact ⟨p, List.mem_cons_self, hg.1⟩
    · rw [if_neg hg, Nat.add_zero] at h
      obtain ⟨p', hp', e⟩ := tal_pos l h
      exact ⟨p', List.mem_cons_of_mem _ hp', e⟩

/-- A wait on a cell below everything still owed is safe. -/
theorem mayWait_tal (c : Dev nD) (sm : SemLoc sig) (l : List (GSem nD τ sig × ℕ))
    (h : ∀ p ∈ l, p.1.1.2 = .tc ∧ lvs sm < lvs p.1.2) :
    (levAts L lv : sProp 𝕄) ⊢ MayWait (c : Thread nD τ) sm () (tal l) :=
  MayOwe.of_cut (L := L) (lev := lv) (lvs sm)
    (fun p hp => by rw [Finset.mem_singleton.mp hp, L_tc]; exact Finset.mem_singleton_self _)
    (fun g u hg => by
      obtain ⟨p, hp, rfl⟩ := tal_pos l hg
      unfold L; rw [if_pos (h p hp).1]; exact Finset.mem_singleton_self _)
    (fun p hp => by rw [Finset.mem_singleton.mp hp]; exact Nat.le_refl _)
    (fun g u hg => by obtain ⟨p, hp, rfl⟩ := tal_pos l hg; exact (h p hp).2)

end Cert.KernelIdealRun

end
-- ==== Proof.KernelIdealRun.Slots.lean ====
/-
# The buffers cut into slots

The two buffers of the `z` exchange are cut into six slots each, the accumulator into eight segments. This file says
that the views the kernel makes are those slots, that whole buffers are the slots together, and what the loads, stores and
transfers through the views read and leave there.
-/
module

public import proofs.«01_k».proof.Proof.KernelIdealRun.Proto

@[expose] public section

noncomputable section

namespace Cert.KernelIdealRun

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The views -/

/-- The rectangle of slot `(s, j)`. -/
abbrev zrect (off : Fin 4 → ℕ) (inb : ∀ a, off a + S1x1x256x128.size a ≤ S2x3x256x128.size a) : Rect S2x3x256x128 :=
  Rect.unit (s := S2x3x256x128) off S1x1x256x128.size inb
/-- The slot as a matrix, of the buffer sent from and of the buffer received in. -/
abbrev zsV (off : Fin 4 → ℕ) (inb : ∀ a, off a + S1x1x256x128.size a ≤ S2x3x256x128.size a) : Memref sig .tc .vmem S256x128 .f32 :=
  (sM.slice (zrect off inb) (fun _ => rfl)).squeeze S256x128 squeezes_S1x1x256x128_S256x128
abbrev zrV (off : Fin 4 → ℕ) (inb : ∀ a, off a + S1x1x256x128.size a ≤ S2x3x256x128.size a) : Memref sig .tc .vmem S256x128 .f32 :=
  (rM.slice (zrect off inb) (fun _ => rfl)).squeeze S256x128 squeezes_S1x1x256x128_S256x128
/-- The rectangle of a segment, and the segment as a matrix. -/
abbrev qrect (off : Fin 3 → ℕ) (inb : ∀ a, off a + S1x256x128.size a ≤ S4x512x128.size a) : Rect S4x512x128 :=
  Rect.unit (s := S4x512x128) off S1x256x128.size inb
abbrev qV (off : Fin 3 → ℕ) (inb : ∀ a, off a + S1x256x128.size a ≤ S4x512x128.size a) : Memref sig .tc .vmem S256x128 .f32 :=
  (aM.slice (qrect off inb) (fun _ => rfl)).squeeze S256x128 squeezes_S1x256x128_S256x128

theorem zrect_set (s j : ℕ) {off : Fin 4 → ℕ} {inb} (h : off = ![s, j, 0, 0]) : (zrect off inb).set = zset s j := by
  subst h
  ext i
  rw [Rect.mem_set_unit, zset, Finset.mem_filter]
  idx_vars i
  simp only [Fin.forall_fin_succ, IsEmpty.forall_iff]
  simp [ix4]
  omega

theorem qrect_set (q s : ℕ) {off : Fin 3 → ℕ} {inb} (h : off = ![q, 256 * s, 0]) : (qrect off inb).set = qset q s := by
  subst h
  ext i
  rw [Rect.mem_set_unit, qset, Finset.mem_filter]
  idx_vars i
  simp only [Fin.forall_fin_succ, IsEmpty.forall_iff]
  simp [ix3]
  omega

theorem zsV_set (s j : ℕ) {off : Fin 4 → ℕ} {inb} (h : off = ![s, j, 0, 0]) : (zsV off inb).view.set = zset s j := by
  show (((View.whole cc0_scratch0).slice (zrect off inb)).reshape S256x128 _).set = _
  rw [View.set_reshape, View.set_slice, View.emb_whole, Finset.map_refl, zrect_set s j h]
theorem zrV_set (s j : ℕ) {off : Fin 4 → ℕ} {inb} (h : off = ![s, j, 0, 0]) : (zrV off inb).view.set = zset s j := by
  show (((View.whole cc0_scratch1).slice (zrect off inb)).reshape S256x128 _).set = _
  rw [View.set_reshape, View.set_slice, View.emb_whole, Finset.map_refl, zrect_set s j h]
theorem qV_set (q s : ℕ) {off : Fin 3 → ℕ} {inb} (h : off = ![q, 256 * s, 0]) : (qV off inb).view.set = qset q s := by
  show (((View.whole cc0_scratch2).slice (qrect off inb)).reshape S256x128 _).set = _
  rw [View.set_reshape, View.set_slice, View.emb_whole, Finset.map_refl, qrect_set q s h]

theorem sM_set (s j : ℕ) {off : Fin 4 → ℕ} {inb} (h : off = ![s, j, 0, 0]) : (sM.access (zrect off inb)).set = zset s j := by
  show ((View.whole cc0_scratch0).slice (zrect off inb)).set = _
  rw [View.set_slice, View.emb_whole, Finset.map_refl, zrect_set s j h]
theorem rM_set (s j : ℕ) {off : Fin 4 → ℕ} {inb} (h : off = ![s, j, 0, 0]) : (rM.access (zrect off inb)).set = zset s j := by
  show ((View.whole cc0_scratch1).slice (zrect off inb)).set = _
  rw [View.set_slice, View.emb_whole, Finset.map_refl, zrect_set s j h]
theorem aM_set (q s : ℕ) {off : Fin 3 → ℕ} {inb} (h : off = ![q, 256 * s, 0]) : (aM.access (qrect off inb)).set = qset q s := by
  show ((View.whole cc0_scratch2).slice (qrect off inb)).set = _
  rw [View.set_slice, View.emb_whole, Finset.map_refl, qrect_set q s h]

/-! ## Whole buffers and their slots -/

theorem zset_cover : (Finset.univ : Finset (Fin 6)).biUnion (fun k => zset (k.val / 3) (k.val % 3)) = Finset.univ := by
  ext i
  simp only [Finset.mem_biUnion, Finset.mem_univ, true_and, iff_true]
  idx_vars i
  refine ⟨⟨3 * i0.val + i1.val, by omega⟩, ?_⟩
  rw [zset, Finset.mem_filter]
  refine ⟨Finset.mem_univ _, ?_, ?_⟩
  · show i0.val = (3 * i0.val + i1.val) / 3; omega
  · show i1.val = (3 * i0.val + i1.val) % 3; omega

theorem zset_disjoint : ∀ k ∈ (Finset.univ : Finset (Fin 6)), ∀ k' ∈ (Finset.univ : Finset (Fin 6)), k ≠ k' →
    Disjoint (zset (k.val / 3) (k.val % 3)) (zset (k'.val / 3) (k'.val % 3)) := by
  intro k _ k' _ hne
  rw [Finset.disjoint_left]
  intro i hi hi'
  rw [zset, Finset.mem_filter] at hi hi'
  exact hne (Fin.ext (by omega))

theorem qset_cover : (Finset.univ : Finset (Fin 8)).biUnion (fun k => qset (k.val / 2) (k.val % 2)) = Finset.univ := by
  ext i
  simp only [Finset.mem_biUnion, Finset.mem_univ, true_and, iff_true]
  idx_vars i
  refine ⟨⟨2 * i0.val + i1.val / 256, by omega⟩, ?_⟩
  rw [qset, Finset.mem_filter]
  refine ⟨Finset.mem_univ _, ?_, ?_⟩
  · show i0.val = (2 * i0.val + i1.val / 256) / 2; omega
  · show i1.val / 256 = (2 * i0.val + i1.val / 256) % 2; omega

theorem qset_disjoint : ∀ k ∈ (Finset.univ : Finset (Fin 8)), ∀ k' ∈ (Finset.univ : Finset (Fin 8)), k ≠ k' →
    Disjoint (qset (k.val / 2) (k.val % 2)) (qset (k'.val / 2) (k'.val % 2)) := by
  intro k _ k' _ hne
  rw [Finset.disjoint_left]
  intro i hi hi'
  rw [qset, Finset.mem_filter] at hi hi'
  exact hne (Fin.ext (by omega))

omit [FloatOps F] in
/-- The buffer sent from is its six slots. -/
theorem zs_split (c : Dev nD) (f : S2x3x256x128.Idx → Elt F .f32) :
    (((c : Thread nD τ).loc cc0_scratch0) ↦{fullShare} (f : Buf (Elt F) ((c : Thread nD τ).loc cc0_scratch0)) : sProp 𝕄)
      = iprop(zsPts c 0 0 f ∗ zsPts c 0 1 f ∗ zsPts c 0 2 f ∗ zsPts c 1 0 f ∗ zsPts c 1 1 f ∗ zsPts c 1 2 f) := by
  have := pointsTo_biUnion (Ix := Unit) (Val := Elt F) (Name := ℕ) (U := UU) (Lvl := ℕ) (ℓ := (c : Thread nD τ).loc cc0_scratch0) (q := fullShare) (f := (f : Buf (Elt F) ((c : Thread nD τ).loc cc0_scratch0))) (Finset.univ : Finset (Fin 6)) (fun k => zset (k.val / 3) (k.val % 3)) zset_disjoint
  rw [zset_cover] at this
  rw [this, bigSep_univ_eq_bigSepL [0, 1, 2, 3, 4, 5] (by decide) (by decide)]
  rfl
omit [FloatOps F] in
/-- The buffer received in is its six slots. -/
theorem zr_split (c : Dev nD) (f : S2x3x256x128.Idx → Elt F .f32) :
    (((c : Thread nD τ).loc cc0_scratch1) ↦{fullShare} (f : Buf (Elt F) ((c : Thread nD τ).loc cc0_scratch1)) : sProp 𝕄)
      = iprop(zrPts c 0 0 f ∗ zrPts c 0 1 f ∗ zrPts c 0 2 f ∗ zrPts c 1 0 f ∗ zrPts c 1 1 f ∗ zrPts c 1 2 f) := by
  have := pointsTo_biUnion (Ix := Unit) (Val := Elt F) (Name := ℕ) (U := UU) (Lvl := ℕ) (ℓ := (c : Thread nD τ).loc cc0_scratch1) (q := fullShare) (f := (f : Buf (Elt F) ((c : Thread nD τ).loc cc0_scratch1))) (Finset.univ : Finset (Fin 6)) (fun k => zset (k.val / 3) (k.val % 3)) zset_disjoint
  rw [zset_cover] at this
  rw [this, bigSep_univ_eq_bigSepL [0, 1, 2, 3, 4, 5] (by decide) (by decide)]
  rfl

omit [FloatOps F] in
theorem qparts (c : Dev nD) (f : S4x512x128.Idx → Elt F .f32) :
    (((c : Thread nD τ).loc cc0_scratch2) ↦{fullShare} (f : Buf (Elt F) ((c : Thread nD τ).loc cc0_scratch2)) : sProp 𝕄)
      = iprop(qPts c 0 0 fullShare f ∗ qPts c 0 1 fullShare f ∗ qPts c 1 0 fullShare f ∗ qPts c 1 1 fullShare f
          ∗ qPts c 2 0 fullShare f ∗ qPts c 2 1 fullShare f ∗ qPts c 3 0 fullShare f ∗ qPts c 3 1 fullShare f) := by
  have := pointsTo_biUnion (Ix := Unit) (Val := Elt F) (Name := ℕ) (U := UU) (Lvl := ℕ) (ℓ := (c : Thread nD τ).loc cc0_scratch2) (q := fullShare) (f := (f : Buf (Elt F) ((c : Thread nD τ).loc cc0_scratch2))) (Finset.univ : Finset (Fin 8)) (fun k => qset (k.val / 2) (k.val % 2)) qset_disjoint
  rw [qset_cover] at this
  rw [this, bigSep_univ_eq_bigSepL [0, 1, 2, 3, 4, 5, 6, 7] (by decide) (by decide)]
  rfl

/-- Separating conjunction as an equality, up to order and bracketing. -/
instance sepComm {M : Type} [RA M] : _root_.Std.Commutative (α := sProp M) BIBase.sep := ⟨fun P Q => BI.Entails.antisymm BI.sep_comm BI.sep_comm⟩
instance sepAssoc {M : Type} [RA M] : _root_.Std.Associative (α := sProp M) BIBase.sep := ⟨fun P Q R => BI.Entails.antisymm BI.sep_assoc BI.sep_assoc'⟩

omit [FloatOps F] in
/-- The accumulator is a device's own two segments and each of the three peers' two. -/
theorem q_split (c : Dev nD) (f : S4x512x128.Idx → Elt F .f32) :
    (((c : Thread nD τ).loc cc0_scratch2) ↦{fullShare} (f : Buf (Elt F) ((c : Thread nD τ).loc cc0_scratch2)) : sProp 𝕄)
      = iprop((qPts c (c.val / 4) 0 fullShare f ∗ qPts c (c.val / 4) 1 fullShare f)
          ∗ (qPts c (qx 0 (c.val / 4)) 0 fullShare f ∗ qPts c (qx 0 (c.val / 4)) 1 fullShare f)
          ∗ (qPts c (qx 1 (c.val / 4)) 0 fullShare f ∗ qPts c (qx 1 (c.val / 4)) 1 fullShare f)
          ∗ (qPts c (qx 2 (c.val / 4)) 0 fullShare f ∗ qPts c (qx 2 (c.val / 4)) 1 fullShare f)) := by
  rw [qparts]
  have hq : c.val / 4 < 4 := by have : c.val < 16 := c.isLt; omega
  generalize c.val / 4 = q at hq
  interval_cases q
  all_goals
    simp only [qx, reduceIte, Nat.reduceAdd, Nat.reduceMod, Nat.reduceSub, Nat.reduceEqDiff, Nat.zero_mod, one_ne_zero, OfNat.ofNat_ne_zero, OfNat.ofNat_ne_one, zero_add]
    ac_rfl

omit [FloatOps F] in
/-- A segment held whole is the three shares lent to the three sends. -/
theorem q_shares (c : Dev nD) (q s : ℕ) (f : S4x512x128.Idx → Elt F .f32) :
    (qPts c q s fullShare f : sProp 𝕄) ⊣⊢ iprop(qPts c q s (qsh 0) f ∗ qPts c q s (qsh 1) f ∗ qPts c q s (qsh 2) f) := by
  have h1 : (qPts c q s fullShare f : sProp 𝕄) ⊣⊢ iprop(qPts c q s fullShare.left f ∗ qPts c q s fullShare.right f) :=
    pointsTo_share (PosShare.mem_left_op_right fullShare)
  have h2 : (qPts c q s fullShare.right f : sProp 𝕄) ⊣⊢ iprop(qPts c q s fullShare.right.left f ∗ qPts c q s fullShare.right.right f) :=
    pointsTo_share (PosShare.mem_left_op_right fullShare.right)
  exact ⟨h1.1.trans (sep_mono_right h2.1), (sep_mono_right h2.2).trans h1.2⟩

/-! ## What the accesses read and leave -/

theorem emb_of_zset {s j : ℕ} {off : Fin 4 → ℕ} {inb} (h : off = ![s, j, 0, 0]) {i : S2x3x256x128.Idx} (hi : i ∈ zset s j) :
    ∃ (r : Fin 256) (l : Fin 128), (zrect off inb).emb (ix4 0 0 r l) = i ∧ (i 2).val = r.val ∧ (i 3).val = l.val := by
  rw [zset, Finset.mem_filter] at hi
  subst h
  idx_vars i
  refine ⟨i2, i3, ?_, rfl, rfl⟩
  have h0 : i0.val = s := hi.2.1
  have h1 : i1.val = j := hi.2.2
  funext a
  apply Fin.ext
  fin_cases a
  · show s + 1 * 0 = i0.val; omega
  · show j + 1 * 0 = i1.val; omega
  · show 0 + 1 * i2.val = i2.val; omega
  · show 0 + 1 * i3.val = i3.val; omega

theorem emb_of_qset {q s : ℕ} {off : Fin 3 → ℕ} {inb} (h : off = ![q, 256 * s, 0]) {i : S4x512x128.Idx} (hi : i ∈ qset q s) :
    ∃ (r : Fin 256) (l : Fin 128), (qrect off inb).emb (ix3 0 r l) = i ∧ (i 0).val = q ∧ (i 1).val = 256 * s + r.val ∧ (i 2).val = l.val := by
  rw [qset, Finset.mem_filter] at hi
  subst h
  idx_vars i
  have h0 : i0.val = q := hi.2.1
  have h1 : i1.val / 256 = s := hi.2.2
  refine ⟨⟨i1.val - 256 * s, by omega⟩, i2, ?_, h0, ?_, rfl⟩
  · funext a
    apply Fin.ext
    fin_cases a
    · show q + 1 * 0 = i0.val; omega
    · show 256 * s + 1 * (i1.val - 256 * s) = i1.val; omega
    · show 0 + 1 * i2.val = i2.val; omega
  · show i1.val = 256 * s + (i1.val - 256 * s); omega

/-- A load of `256` rows and `128` columns of the partial sums. -/
theorem load_x (c : Dev nD) {R C : ℕ} {off : Fin 3 → ℕ} {inb} (h : off = ![0, R, C]) (r : Fin 256) (l : Fin 128) :
    xM.view.readAt (Elt F) (Rect.unit (s := S1x2048x512) off S1x256x128.size inb).toLoadRect (xstg m ρ c) (ix3 0 r l)
      = xat m ρ c (R + r.val) (C + l.val) := by
  subst h
  unfold xat
  have h1 : R + 256 ≤ 2048 := inb 1
  have h2 : C + 128 ≤ 512 := inb 2
  show (xstg m ρ c : S1x2048x512.Idx → F .f32) _ = _
  refine congrArg (xstg m ρ c : S1x2048x512.Idx → F .f32) ?_
  funext a
  apply Fin.ext
  fin_cases a
  · rfl
  · show R + 1 * r.val = (R + r.val) % 2048; omega
  · show C + 1 * l.val = (C + l.val) % 512; omega

/-- A load of a slot of the buffer received in. -/
theorem load_r (c : Dev nD) {s j : ℕ} {off : Fin 4 → ℕ} {inb} (h : off = ![s, j, 0, 0]) (r : Fin 256) (l : Fin 128) :
    rM.view.readAt (Elt F) (zrect off inb).toLoadRect (ZR m ρ c) (ix4 0 0 r l)
      = xat m ρ (zp (3 - j) c) (512 * (((zp (3 - j) c).val % 4 + j + 1) % 4) + 256 * s + r.val) (128 * (c.val / 4) + l.val) := by
  subst h
  show ZR m ρ c ((zrect ![s, j, 0, 0] inb).emb (ix4 0 0 r l)) = _
  unfold ZR ZS
  have e0 : (((zrect ![s, j, 0, 0] inb).emb (ix4 0 0 r l)) 0).val = s := by show s + 1 * 0 = s; omega
  have e1 : (((zrect ![s, j, 0, 0] inb).emb (ix4 0 0 r l)) 1).val = j := by show j + 1 * 0 = j; omega
  have e2 : (((zrect ![s, j, 0, 0] inb).emb (ix4 0 0 r l)) 2).val = r.val := by show 0 + 1 * r.val = _; omega
  have e3 : (((zrect ![s, j, 0, 0] inb).emb (ix4 0 0 r l)) 3).val = l.val := by show 0 + 1 * l.val = _; omega
  rw [e0, e1, e2, e3]
  congr 2
  simp only [zp]; omega

theorem pay2_at (v : Vec F S1x256x128 .f32) (r : Fin 256) (l : Fin 128) : k0_pay2 v (ix4 0 0 r l) = v (ix3 0 r l) := by
  pointwise [k0_pay2]

theorem pay9_at (v360 : Vec F S1x256x128 .f32) (v362 v365 v368 : Vec F S1x1x256x128 .f32) (r : Fin 256) (l : Fin 128) :
    k0_pay9 v360 v362 v365 v368 (ix3 0 r l)
      = FloatOps.addf (FloatOps.addf (FloatOps.addf (v360 (ix3 0 r l)) (v362 (ix4 0 0 r l))) (v365 (ix4 0 0 r l))) (v368 (ix4 0 0 r l)) := by
  pointwise [k0_pay9]

omit [FloatOps F] in
/-- A store into a slot, read at an element of the slot. -/
theorem store_s {off : Fin 4 → ℕ} {inb} (f : S2x3x256x128.Idx → Elt F .f32) (w : (zrect off inb).shape.Idx → Elt F .f32)
    {i : S2x3x256x128.Idx} {x} (he : (zrect off inb).emb x = i) :
    (sM.access (zrect off inb)).write (Elt F) f w Finset.univ i = w x := by
  have hw := (sM.access (zrect off inb)).write_emb_of_mem (Val := Elt F) f w (M := Finset.univ) (x := x) (Finset.mem_univ _)
  rw [show (sM.access (zrect off inb)).emb x = i from he] at hw
  exact hw
omit [FloatOps F] in
/-- A store into a segment, read at an element of the segment. -/
theorem store_a {off : Fin 3 → ℕ} {inb} (f : S4x512x128.Idx → Elt F .f32) (w : (qrect off inb).shape.Idx → Elt F .f32)
    {i : S4x512x128.Idx} {x} (he : (qrect off inb).emb x = i) :
    (aM.access (qrect off inb)).write (Elt F) f w Finset.univ i = w x := by
  have hw := (aM.access (qrect off inb)).write_emb_of_mem (Val := Elt F) f w (M := Finset.univ) (x := x) (Finset.mem_univ _)
  rw [show (aM.access (qrect off inb)).emb x = i from he] at hw
  exact hw

/-- Staging: what the store of a block's part leaves in slot `(s, j)`. -/
theorem stage_eq (c : Dev nD) {s j : ℕ} {off : Fin 4 → ℕ} {inb} (h : off = ![s, j, 0, 0]) {offx : Fin 3 → ℕ} {inbx}
    (hx : offx = ![0, 512 * ((c.val % 4 + j + 1) % 4) + 256 * s, 128 * (c.val / 4)]) (f : S2x3x256x128.Idx → Elt F .f32) :
    ∀ i ∈ zset s j, (sM.access (zrect off inb)).write (Elt F) f
      (k0_pay2 (xM.view.readAt (Elt F) (Rect.unit (s := S1x2048x512) offx S1x256x128.size inbx).toLoadRect (xstg m ρ c))) Finset.univ i = ZS m ρ c i := by
  intro i hi
  obtain ⟨r, l, he, e2, e3⟩ := emb_of_zset (inb := inb) h hi
  rw [zset, Finset.mem_filter] at hi
  rw [store_s f _ he]
  rw [pay2_at, load_x m ρ c hx]
  unfold ZS
  rw [hi.2.1, hi.2.2, e2, e3]

/-- The transfer along `z`: what it leaves in slot `(s, j)` of the device `j + 1` further. -/
theorem zland_eq (c : Dev nD) {s j : ℕ} (hj : j < 3) {off : Fin 4 → ℕ} {inb inb'} (h : off = ![s, j, 0, 0])
    (fd : S2x3x256x128.Idx → Elt F .f32) :
    ∀ i ∈ zset s j, (zrV off inb).view.write (Elt F) fd ((zsV off inb').view.read (Elt F) (ZS m ρ c)) Finset.univ i
      = ZR m ρ (zp (j + 1) c) i := by
  intro i hi
  have hi' : i ∈ (zrV off inb).view.set := by rw [zrV_set s j h]; exact hi
  obtain ⟨x, -, hx⟩ := Finset.mem_map.mp hi'
  have hw := (zrV off inb).view.write_emb_of_mem (Val := Elt F) fd ((zsV off inb').view.read (Elt F) (ZS m ρ c)) (M := Finset.univ) (x := x) (Finset.mem_univ _)
  rw [hx] at hw
  rw [hw]
  show ZS m ρ c ((zsV off inb').view.emb x) = _
  rw [show (zsV off inb').view.emb x = i from hx]
  rw [zset, Finset.mem_filter] at hi
  unfold ZR
  rw [hi.2.2, zp_back (by omega)]

/-- The transfer in the plane leaves the segment as it is at its source. -/
theorem qland_eq (c : Dev nD) {q s : ℕ} {off : Fin 3 → ℕ} {inb inb'} (h : off = ![q, 256 * s, 0])
    (fd : S4x512x128.Idx → Elt F .f32) :
    ∀ i ∈ qset q s, (qV off inb).view.write (Elt F) fd ((qV off inb').view.read (Elt F) (QA m ρ c)) Finset.univ i = QA m ρ c i := by
  intro i hi
  have hi' : i ∈ (qV off inb).view.set := by rw [qV_set q s h]; exact hi
  obtain ⟨x, -, hx⟩ := Finset.mem_map.mp hi'
  have hw := (qV off inb).view.write_emb_of_mem (Val := Elt F) fd ((qV off inb').view.read (Elt F) (QA m ρ c)) (M := Finset.univ) (x := x) (Finset.mem_univ _)
  rw [hx] at hw
  rw [hw]
  show QA m ρ c ((qV off inb').view.emb x) = _
  rw [show (qV off inb').view.emb x = i from hx]

/-- Summing: what the store of the four planes' sum leaves in a device's own segment `s`. -/
theorem acc_eq (c : Dev nD) {s : ℕ} (hs : s < 2) {off : Fin 3 → ℕ} {inb} (h : off = ![c.val / 4, 256 * s, 0]) {offx : Fin 3 → ℕ} {inbx}
    (hx : offx = ![0, 512 * (c.val % 4) + 256 * s, 128 * (c.val / 4)]) {o0 o1 o2 : Fin 4 → ℕ} {i0 i1 i2}
    (h0 : o0 = ![s, 0, 0, 0]) (h1 : o1 = ![s, 1, 0, 0]) (h2 : o2 = ![s, 2, 0, 0]) (f : S4x512x128.Idx → Elt F .f32) :
    ∀ i ∈ qset (c.val / 4) s, (aM.access (qrect off inb)).write (Elt F) f
      (k0_pay9 (xM.view.readAt (Elt F) (Rect.unit (s := S1x2048x512) offx S1x256x128.size inbx).toLoadRect (xstg m ρ c))
        (rM.view.readAt (Elt F) (zrect o0 i0).toLoadRect (ZR m ρ c)) (rM.view.readAt (Elt F) (zrect o1 i1).toLoadRect (ZR m ρ c))
        (rM.view.readAt (Elt F) (zrect o2 i2).toLoadRect (ZR m ρ c))) Finset.univ i = QA m ρ c i := by
  intro i hi
  obtain ⟨r, l, he, e0, e1, e2⟩ := emb_of_qset (inb := inb) h hi
  rw [store_a f _ he]
  rw [pay9_at, load_x m ρ c hx, load_r m ρ c h0, load_r m ρ c h1, load_r m ρ c h2]
  unfold QA qsum
  rw [e0, e1, e2, pl_self]
  have z0 : ((zp (3 - 0) c).val % 4 + 0 + 1) % 4 = c.val % 4 := by simp only [zp]; omega
  have z1 : ((zp (3 - 1) c).val % 4 + 1 + 1) % 4 = c.val % 4 := by simp only [zp]; omega
  have z2 : ((zp (3 - 2) c).val % 4 + 2 + 1) % 4 = c.val % 4 := by simp only [zp]; omega
  rw [z0, z1, z2]
  simp only [Nat.add_assoc]

end Cert.KernelIdealRun

end
-- ==== Proof.KernelIdealRun.Steps.lean ====
/-
# One rule per step of the body

Each rule takes what one step of the kernel needs, and hands back what is left after it to the rest of the program:
a signal, the wait on the barrier, a load, the store that stages a slot, a send, a wait on a transfer, the store that
accumulates.
-/
module

public import proofs.«01_k».proof.Proof.KernelIdealRun.Slots

@[expose] public section

noncomputable section

namespace Cert.KernelIdealRun

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-! ## What every step may use: the cells' invariants and that round 0 is reached -/

/-- The index of transfer cell `n` among a device's cells. -/
def ki (n : ℕ) : Fin 25 := ⟨(n + 1) % 25, Nat.mod_lt _ (by decide)⟩
omit [FloatOps F] in
theorem kcell_ki (c : Dev nD) {n : ℕ} (hn : n < 24) : kcell (c, ki n) = dcell c n := by
  have e : (ki n).val = n + 1 := Nat.mod_eq_of_lt (by omega)
  show ((c : Thread nD τ), csem (ki n)) = _
  unfold csem
  rw [if_neg (by rw [e]; omega), e]
  rfl

def records (K : Dev nD × Fin 25 → ℕ) : sProp 𝕄 :=
  iprop((bigSep Finset.univ fun ck : Dev nD × Fin 25 => cellInv ER (Rd m ρ) (K ck) (kcell ck))
    ∗ bigSep Finset.univ fun ck : Dev nD × Fin 25 => reached ER (kcell ck) 0)

instance records_persistent (K : Dev nD × Fin 25 → ℕ) : BI.Persistent (records m ρ K) := by unfold records; infer_instance

theorem rec_at (K : Dev nD × Fin 25 → ℕ) (ck : Dev nD × Fin 25) :
    records m ρ K ⊢ iprop(cellInv ER (Rd m ρ) (K ck) (kcell ck) ∗ reached ER (kcell ck) 0) :=
  BIClass.sep_mono (bigSep_elim (Finset.mem_univ ck)) (bigSep_elim (Finset.mem_univ ck))
theorem rec_bar (K : Dev nD × Fin 25 → ℕ) (c : Dev nD) :
    records m ρ K ⊢ iprop(cellInv ER (Rd m ρ) (K (c, 0)) (barCell c) ∗ reached ER (barCell c) 0) := rec_at m ρ K (c, 0)
theorem rec_dma (K : Dev nD × Fin 25 → ℕ) (c : Dev nD) {n : ℕ} (hn : n < 24) :
    records m ρ K ⊢ iprop(cellInv ER (Rd m ρ) (K (c, ki n)) (dcell c n) ∗ reached ER (dcell c n) 0) := by
  rw [← kcell_ki c hn]; exact rec_at m ρ K (c, ki n)

/-- What a device still owes, whatever it has waited for. -/
def owesS (c : Dev nD) (T : CellTallies nD τ sig Unit) : sProp 𝕄 := iprop(∃ W, owes (c : Thread nD τ) T W)

/-- Before a transfer is sent: the sender's positions at the two cells it will wait on, the credit of the arrival it
    waits for, and the tokens of the two duties the transfer pays, the sender's own and the arrival at `c'`. -/
def XT (c c' : Dev nD) (n : ℕ) : sProp 𝕄 :=
  iprop(atPos ER (dcell c n) 0 ∅ 0 ∗ (atPos ER (dcell c (n + 6)) 0 ∅ 0 ∗ cred (tallyAt (dcell c (n + 6)) () N))
    ∗ dutyTok ER (dcell c n) 0 0 ∗ dutyTok ER (dcell c' (n + 6)) 0 0)
/-- Before a wait: the position at the cell and its credit. -/
def CI (c : Dev nD) (n : ℕ) : sProp 𝕄 := iprop(atPos ER (dcell c n) 0 ∅ 0 ∗ cred (tallyAt (dcell c n) () N))

def xPts (c : Dev nD) : sProp 𝕄 := ((c : Thread nD τ).loc cc0_stg0_0) ↦{fullShare} xstg m ρ c
def gPts (c : Dev nD) : sProp 𝕄 := ((c : Thread nD τ).loc cc0_stg1_0) ↦{fullShare} gstg m ρ c
def aPts (c : Dev nD) : sProp 𝕄 := ((c : Thread nD τ).loc cc0_scratch2) ↦{fullShare} (QA m ρ c : Buf (Elt F) ((c : Thread nD τ).loc cc0_scratch2))

/-! ## The barrier -/

section Barrier
variable (K : Dev nD × Fin 25 → ℕ)

/-- A signal pays one unit of the barrier of `n`, handing over what the duty promises. -/
theorem wp_sig (c n n' : Dev nD) (hn : n' = n) (d : Fin 6) {T T' : CellTallies nD τ sig Unit} (hT : T = T' + tallyAt (barCell n) () 1)
    {α : Type} {Q : α → sProp 𝕄} {k : PUnit → Prog (TpuEff nD τ sig (Elt F) Λ₀ .tc) α} :
    iprop(records m ρ K ∗ owesS c T ∗ dutyTok ER (barCell n) 0 d ∗ barPay n d)
      ⊢ iprop((owesS c T' -∗ wp frame (wpE (defs₀ (F := F)) 𝒱₀ (c : Thread nD τ) none) Set.univ (k ⟨⟩) Q)
          -∗ wp frame (wpE (defs₀ (F := F)) 𝒱₀ (c : Thread nD τ) none) Set.univ
              (.op (.semSignal (n', .tc) barS (1#32 : BitVec 32).toInt) k) Q) := by
  subst hn
  unfold owesS
  iintro ⟨#HR, ⟨%W, HO⟩, Ht, Hp⟩ Hk
  ihave HR' := (rec_bar m ρ K n') $$ HR
  icases HR' with ⟨#HI, #Hr⟩
  iapply (Rounds.wp_signal 𝒱₀ ER (Rd m ρ) (c : Thread nD τ) none (dst := (n' : Thread nD τ)) (κ := K (n', 0))
      (d := d) (by rw [duties_bar]; exact Finset.mem_univ _) ((amount_bar m ρ n' d).trans (by decide)) () T' hT)
    $$ [HO Ht Hp]
  · isplitr; · iexact HI
    isplitl [HO]; · iexact HO
    isplitl [Ht]; · iexact Ht
    isplitl [Hp]; · rw [payload_bar]; iexact Hp
    iexact Hr
  iintro HO
  iapply Hk
  iexists W; iexact HO

/-- The wait for the six units: all six payloads, and the barrier's counter is back at zero. -/
theorem wp_barwait (c : Dev nD) (l : List (GSem nD τ sig × ℕ)) (hl : ∀ p ∈ l, p.1.1.2 = .tc ∧ lvs (.reg barS) < lvs p.1.2)
    {α : Type} {Q : α → sProp 𝕄} {k : PUnit → Prog (TpuEff nD τ sig (Elt F) Λ₀ .tc) α} :
    iprop(records m ρ K ∗ levAts L lv ∗ owesS c (tal l) ∗ cred (tallyAt (barCell c) () 6) ∗ atPos ER (barCell c) 0 ∅ 0)
      ⊢ iprop(((owesS c (tal l) ∗ semVal (barCell c) 0 ∗ barPay c 0 ∗ barPay c 1 ∗ barPay c 2 ∗ barPay c 3 ∗ barPay c 4 ∗ barPay c 5)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.semWait barS (6#32 : BitVec 32).toInt) k) Q) := by
  unfold owesS
  iintro ⟨#HR, #Hlev, ⟨%W, HO⟩, Hc, Hat⟩ Hk
  ihave HR' := (rec_bar m ρ K c) $$ HR
  icases HR' with ⟨#HI, #Hr⟩
  iapply (Rounds.wp_wait_rest_token 𝒱₀ ER (Rd m ρ) (c : Thread nD τ) none (κ := K (c, 0))
      (wpE_semWait_eq 𝒱₀ (c : Thread nD τ) none Set.univ) (Set.mem_univ _) () (O := tal l) (W := W) (R := 0) (m := 0) (T := ∅)
      (by rw [expect_bar]; decide)) $$ [Hc HO Hat]
  · isplitr; · iexact HI
    isplitl [Hc]; · iexact Hc
    isplitl [HO]; · iexact HO
    isplitr; · iapply (mayWait_tal c (.reg barS) l hl); iexact Hlev
    iexact Hat
  iintro ⟨HO, Hat, -, Hpay⟩
  imod (Rounds.cell_close ER (Rd m ρ) (Set.mem_univ (K (c, 0))) (fun h => h) (R := 0 + 1) (duties_later m ρ (barCell c))) $$ [Hat] with Hz
  · isplitr; · iexact HI
    iexact Hat
  iapply Hk
  isplitl [HO]; · iexists _; iexact HO
  isplitl [Hz]; · iexact Hz
  iapply (Entails.of_eq (rest_bar m ρ c)); iexact Hpay

omit [FloatOps F] in
/-- What a device hands to the device `3 - j` further: its own two slots `j`. -/
theorem barPay_z (c : Dev nD) (j : ℕ) (hj : j < 3) (d : Fin 6) (hd : d.val = j) :
    iprop((∃ f, zrPts c 0 j f) ∗ (∃ f, zrPts c 1 j f)) ⊢ (barPay (zp (3 - j) c) d : sProp 𝕄) := by
  unfold barPay
  rw [if_pos (by omega), hd, zp_back (by omega)]
omit [FloatOps F] in
/-- What a device hands to its `j`-th peer in the plane: its own quarter of that peer's column. -/
theorem barPay_q (c : Dev nD) (j : ℕ) (hj : j < 3) (d : Fin 6) (hd : d.val = 3 + j) :
    iprop((∃ f, qPts c (qx j (c.val / 4)) 0 fullShare f) ∗ (∃ f, qPts c (qx j (c.val / 4)) 1 fullShare f)) ⊢ (barPay (xyp j c) d : sProp 𝕄) := by
  unfold barPay
  rw [if_neg (by omega), hd, Nat.add_sub_cancel_left, xyp_xyp hj, xyp_col hj]

end Barrier

/-! ## The transfers -/

section Transfers
variable (K : Dev nD × Fin 25 → ℕ)

theorem credit_z (off : Fin 4 → ℕ) (inb) : (zrV off inb).view.dmaCredit = N := rfl
theorem credit_zs (off : Fin 4 → ℕ) (inb) : (zsV off inb).view.dmaCredit = N := rfl
theorem credit_q (off : Fin 3 → ℕ) (inb) : (qV off inb).view.dmaCredit = N := rfl

theorem xferPay_zs (c : Dev nD) {s j : ℕ} (hs : s < 2) (hj : j < 3) : xferPay m ρ c (xn 0 s j) = zsPts c s j (ZS m ρ c) := by
  have a : xn 0 s j / 6 = 0 := by unfold xn; omega
  have b : xn 0 s j % 6 / 3 = s := by unfold xn; omega
  have d : xn 0 s j % 3 = j := by unfold xn; omega
  unfold xferPay; rw [a, b, d]; rfl
theorem xferPay_zr (c : Dev nD) {s j : ℕ} (hs : s < 2) (hj : j < 3) : xferPay m ρ c (xn 1 s j) = zrPts c s j (ZR m ρ c) := by
  have a : xn 1 s j / 6 = 1 := by unfold xn; omega
  have b : xn 1 s j % 6 / 3 = s := by unfold xn; omega
  have d : xn 1 s j % 3 = j := by unfold xn; omega
  unfold xferPay; rw [a, b, d]; rfl
theorem xferPay_qs (c : Dev nD) {s j : ℕ} (hs : s < 2) (hj : j < 3) : xferPay m ρ c (xn 2 s j) = qPts c (c.val / 4) s (qsh j) (QA m ρ c) := by
  have a : xn 2 s j / 6 = 2 := by unfold xn; omega
  have b : xn 2 s j % 6 / 3 = s := by unfold xn; omega
  have d : xn 2 s j % 3 = j := by unfold xn; omega
  unfold xferPay; rw [a, b, d]; rfl
theorem xferPay_qr (c : Dev nD) {s j : ℕ} (hs : s < 2) (hj : j < 3) : xferPay m ρ c (xn 3 s j) = qPts c (qx j (c.val / 4)) s fullShare (QA m ρ c) := by
  have a : xn 3 s j / 6 = 3 := by unfold xn; omega
  have b : xn 3 s j % 6 / 3 = s := by unfold xn; omega
  have d : xn 3 s j % 3 = j := by unfold xn; omega
  unfold xferPay; rw [a, b, d]; rfl

/-- Sending slot `(s, j)` along `z`. -/
theorem wp_zsend (c n : Dev nD) (s j : ℕ) (hs : s < 2) (hj : j < 3) (hn : n = zp (j + 1) c) {off : Fin 4 → ℕ} {inb inb'} (h : off = ![s, j, 0, 0])
    (sS sR : DmaSem sig) (hS : sS = dsem (xn 0 s j)) (hR : sR = dsem (xn 0 s j + 6))
    {hsc : (zrV off inb').view.ref.isScScratch = false} {hsrc : (zsV off inb).view.WordExact} {hdst : (zrV off inb').view.WordExact}
    {hsem : DmaTarget.Typed .vmem (.dma sR) (.remote (Dev.tc n : Thread nD τ) (zrV off inb') (.dma sS) hsc)}
    {T T' : CellTallies nD τ sig Unit} (hT : T = T' + tallyAt (dcell (zp (j + 1) c) (xn 0 s j + 6)) () N)
    {α : Type} {Q : α → sProp 𝕄} {k : PUnit → Prog (TpuEff nD τ sig (Elt F) Λ₀ .tc) α} :
    iprop(records m ρ K ∗ owesS c T ∗ XT c (zp (j + 1) c) (xn 0 s j) ∗ zsPts c s j (ZS m ρ c) ∗ (∃ f, zrPts (zp (j + 1) c) s j f))
      ⊢ iprop(((owesS c T' ∗ CI c (xn 0 s j) ∗ CI c (xn 0 s j + 6)) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (zsV off inb) (.remote (Dev.tc n : Thread nD τ) (zrV off inb') (.dma sS) hsc) (.dma sR) hsrc hdst hsem) k) Q) := by
  subst hn hS hR
  have hn0 : xn 0 s j < 24 := by unfold xn; omega
  have hn1 : xn 0 s j + 6 < 24 := by unfold xn; omega
  have e1 : xn 0 s j + 6 = xn 1 s j := by unfold xn; omega
  unfold owesS XT CI
  iintro ⟨#HR, ⟨%W, HO⟩, ⟨Hat0, ⟨Hat1, Hc1⟩, Ht0, Ht1⟩, Hs, ⟨%f, Hd⟩⟩ Hk
  ihave HR0 := (rec_dma m ρ K c hn0) $$ HR
  ihave HR1 := (rec_dma m ρ K (zp (j + 1) c) hn1) $$ HR
  icases HR0 with ⟨#HI0, #Hr0⟩
  icases HR1 with ⟨#HI1, #Hr1⟩
  iapply (Rounds.wp_send_pointsTo 𝒱₀ ER (Rd m ρ) (c : Thread nD τ) none (κ₁ := K (c, ki (xn 0 s j))) (κ₂ := K (zp (j + 1) c, ki (xn 0 s j + 6)))
    (r₁ := 0) (r₂ := 0) (d₁ := 0) (d₂ := 0) (fd := (f : Buf (Elt F) _)) (fs := (ZS m ρ c : Buf (Elt F) _)) (q := fullShare)
    (by rw [duties_dma m ρ c hn0]; exact Finset.mem_singleton_self _) (by rw [duties_dma m ρ _ hn1]; exact Finset.mem_singleton_self _)
    () () N (by exact credit_z off inb') (amount_dma m ρ c _ 0) (amount_dma m ρ (zp (j + 1) c) _ 0) T' hT (W := W)
    (by rw [payload_dma m ρ c hn0, xferPay_zs m ρ c hs hj]; unfold zsPts; rw [zsV_set s j h])
    (by rw [payload_dma m ρ _ hn1, e1, xferPay_zr m ρ _ hs hj]; unfold zrPts; rw [zrV_set s j h]
        exact Entails.of_eq (pointsTo_congr (zland_eq m ρ c hj h f)))) $$ [HO Ht0 Ht1 Hs Hd]
  · isplitr; · iexact HI0
    isplitr; · iexact HI1
    isplitl [Hs]; · rw [zsV_set s j h]; unfold zsPts; iexact Hs
    isplitl [Hd]; · rw [zrV_set s j h]; unfold zrPts; iexact Hd
    isplitl [HO]; · iexact HO
    isplitl [Ht0]; · iexact Ht0
    isplitr; · iexact Hr0
    isplitl [Ht1]; · iexact Ht1
    iexact Hr1
  iintro ⟨Hc0, HO⟩
  iapply Hk
  isplitl [HO]; · iexists W; iexact HO
  isplitl [Hat0 Hc0]
  · isplitl [Hat0] <;> iassumption
  isplitl [Hat1] <;> iassumption

/-- Sending segment `s` of a device's own quarter to its `j`-th peer in the plane. -/
theorem wp_qsend (c n : Dev nD) (s j : ℕ) (hs : s < 2) (hj : j < 3) (hn : n = xyp j c) {off : Fin 3 → ℕ} {inb inb'} (h : off = ![c.val / 4, 256 * s, 0])
    (sS sR : DmaSem sig) (hS : sS = dsem (xn 2 s j)) (hR : sR = dsem (xn 2 s j + 6))
    {hsc : (qV off inb').view.ref.isScScratch = false} {hsrc : (qV off inb).view.WordExact} {hdst : (qV off inb').view.WordExact}
    {hsem : DmaTarget.Typed .vmem (.dma sR) (.remote (Dev.tc n : Thread nD τ) (qV off inb') (.dma sS) hsc)}
    {T T' : CellTallies nD τ sig Unit} (hT : T = T' + tallyAt (dcell (xyp j c) (xn 2 s j + 6)) () N)
    {α : Type} {Q : α → sProp 𝕄} {k : PUnit → Prog (TpuEff nD τ sig (Elt F) Λ₀ .tc) α} :
    iprop(records m ρ K ∗ owesS c T ∗ XT c (xyp j c) (xn 2 s j) ∗ qPts c (c.val / 4) s (qsh j) (QA m ρ c) ∗ (∃ f, qPts (xyp j c) (c.val / 4) s fullShare f))
      ⊢ iprop(((owesS c T' ∗ CI c (xn 2 s j) ∗ CI c (xn 2 s j + 6)) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (qV off inb) (.remote (Dev.tc n : Thread nD τ) (qV off inb') (.dma sS) hsc) (.dma sR) hsrc hdst hsem) k) Q) := by
  subst hn hS hR
  have hn0 : xn 2 s j < 24 := by unfold xn; omega
  have hn1 : xn 2 s j + 6 < 24 := by unfold xn; omega
  have e1 : xn 2 s j + 6 = xn 3 s j := by unfold xn; omega
  have ec : qx j ((xyp j c).val / 4) = c.val / 4 := by rw [← xyp_col hj, xyp_xyp hj]
  unfold owesS XT CI
  iintro ⟨#HR, ⟨%W, HO⟩, ⟨Hat0, ⟨Hat1, Hc1⟩, Ht0, Ht1⟩, Hs, ⟨%f, Hd⟩⟩ Hk
  ihave HR0 := (rec_dma m ρ K c hn0) $$ HR
  ihave HR1 := (rec_dma m ρ K (xyp j c) hn1) $$ HR
  icases HR0 with ⟨#HI0, #Hr0⟩
  icases HR1 with ⟨#HI1, #Hr1⟩
  iapply (Rounds.wp_send_pointsTo 𝒱₀ ER (Rd m ρ) (c : Thread nD τ) none (κ₁ := K (c, ki (xn 2 s j))) (κ₂ := K (xyp j c, ki (xn 2 s j + 6)))
    (r₁ := 0) (r₂ := 0) (d₁ := 0) (d₂ := 0) (fd := (f : Buf (Elt F) _)) (fs := (QA m ρ c : Buf (Elt F) _)) (q := qsh j)
    (by rw [duties_dma m ρ c hn0]; exact Finset.mem_singleton_self _) (by rw [duties_dma m ρ _ hn1]; exact Finset.mem_singleton_self _)
    () () N (by exact credit_q off inb') (amount_dma m ρ c _ 0) (amount_dma m ρ (xyp j c) _ 0) T' hT (W := W)
    (by rw [payload_dma m ρ c hn0, xferPay_qs m ρ c hs hj]; unfold qPts; rw [qV_set (c.val / 4) s h])
    (by rw [payload_dma m ρ _ hn1, e1, xferPay_qr m ρ _ hs hj, ec, QA_xyp]; unfold qPts; rw [qV_set (c.val / 4) s h]
        exact Entails.of_eq (pointsTo_congr (qland_eq m ρ c h f)))) $$ [HO Ht0 Ht1 Hs Hd]
  · isplitr; · iexact HI0
    isplitr; · iexact HI1
    isplitl [Hs]; · rw [qV_set (c.val / 4) s h]; unfold qPts; iexact Hs
    isplitl [Hd]; · rw [qV_set (c.val / 4) s h]; unfold qPts; iexact Hd
    isplitl [HO]; · iexact HO
    isplitl [Ht0]; · iexact Ht0
    isplitr; · iexact Hr0
    isplitl [Ht1]; · iexact Ht1
    iexact Hr1
  iintro ⟨Hc0, HO⟩
  iapply Hk
  isplitl [HO]; · iexists W; iexact HO
  isplitl [Hat0 Hc0]
  · isplitl [Hat0] <;> iassumption
  isplitl [Hat1] <;> iassumption

/-- A wait on a transfer cell: its payload, and the counter is back at zero. -/
theorem wp_xwait (c : Dev nD) (n : ℕ) (hn : n < 24) (sm : DmaSem sig) (hsm : sm = dsem n)
    {src : Memref sig .tc .vmem S256x128 .f32} {dst : Memref sig .tc .vmem S256x128 .f32} {hs hd} (hN : dst.view.dmaCredit = N)
    (l : List (GSem nD τ sig × ℕ)) (hl : ∀ p ∈ l, p.1.1.2 = .tc ∧ lvs (.dma (dsem n)) < lvs p.1.2)
    {α : Type} {Q : α → sProp 𝕄} {k : PUnit → Prog (TpuEff nD τ sig (Elt F) Λ₀ .tc) α} :
    iprop(records m ρ K ∗ levAts L lv ∗ owesS c (tal l) ∗ CI c n)
      ⊢ iprop(((owesS c (tal l) ∗ semVal (dcell c n) 0 ∗ xferPay m ρ c n)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 sm src dst hs hd) k) Q) := by
  subst hsm
  unfold owesS CI
  iintro ⟨#HR, #Hlev, ⟨%W, HO⟩, Hat, Hc⟩ Hk
  ihave HR' := (rec_dma m ρ K c hn) $$ HR
  icases HR' with ⟨#HI, #Hr⟩
  iapply (Rounds.wp_wait_rest_token 𝒱₀ ER (Rd m ρ) (c : Thread nD τ) none (κ := K (c, ki n))
      (wpE_waitDma2_eq 𝒱₀ (c : Thread nD τ) none Set.univ) (Set.mem_univ _) () (O := tal l) (W := W) (R := 0) (m := 0) (T := ∅)
      (by rw [expect_dma m ρ c hn, hN, Nat.zero_add])) $$ [Hc HO Hat]
  · isplitr; · iexact HI
    isplitl [Hc]; · rw [hN]; iexact Hc
    isplitl [HO]; · iexact HO
    isplitr; · iapply (mayWait_tal c (.dma (dsem n)) l hl); iexact Hlev
    iexact Hat
  iintro ⟨HO, Hat, -, Hpay⟩
  imod (Rounds.cell_close ER (Rd m ρ) (Set.mem_univ (K (c, ki n))) (fun h => h) (R := 0 + 1) (duties_later m ρ (dcell c n))) $$ [Hat] with Hz
  · isplitr; · iexact HI
    iexact Hat
  iapply Hk
  isplitl [HO]; · iexists _; iexact HO
  isplitl [Hz]; · iexact Hz
  iapply (Entails.of_eq (rest_dma m ρ c hn)); iexact Hpay

end Transfers

/-! ## Loads and stores -/

section Memory

theorem wp_ldx (c : Dev nD) {r : Rect S1x2048x512} {hl} {α : Type} {Q : α → sProp 𝕄}
    {k : (r.toLoadRect.shape.Idx → Elt F .f32) → Prog (TpuEff nD τ sig (Elt F) Λ₀ .tc) α} :
    xPts m ρ c ⊢ iprop((xPts m ρ c -∗ wp frame (wpE (defs₀ (F := F)) 𝒱₀ (c : Thread nD τ) none) Set.univ (k (xM.view.readAt (Elt F) r.toLoadRect (xstg m ρ c))) Q)
          -∗ wp frame (wpE (defs₀ (F := F)) 𝒱₀ (c : Thread nD τ) none) Set.univ (.op (.load xM r.toLoadRect hl) k) Q) :=
  wp_load 𝒱₀ (c : Thread nD τ) none Set.univ (m := xM) (Finset.subset_univ _)

theorem wp_ldg (c : Dev nD) {r : Rect S512} {hl} {α : Type} {Q : α → sProp 𝕄}
    {k : (r.toLoadRect.shape.Idx → Elt F .f32) → Prog (TpuEff nD τ sig (Elt F) Λ₀ .tc) α} :
    gPts m ρ c ⊢ iprop((gPts m ρ c -∗ wp frame (wpE (defs₀ (F := F)) 𝒱₀ (c : Thread nD τ) none) Set.univ (k (gM.view.readAt (Elt F) r.toLoadRect (gstg m ρ c))) Q)
          -∗ wp frame (wpE (defs₀ (F := F)) 𝒱₀ (c : Thread nD τ) none) Set.univ (.op (.load gM r.toLoadRect hl) k) Q) :=
  wp_load 𝒱₀ (c : Thread nD τ) none Set.univ (m := gM) (Finset.subset_univ _)

theorem wp_lda (c : Dev nD) {r : Rect S4x512x128} {hl} {α : Type} {Q : α → sProp 𝕄}
    {k : (r.toLoadRect.shape.Idx → Elt F .f32) → Prog (TpuEff nD τ sig (Elt F) Λ₀ .tc) α} :
    aPts m ρ c ⊢ iprop((aPts m ρ c -∗ wp frame (wpE (defs₀ (F := F)) 𝒱₀ (c : Thread nD τ) none) Set.univ (k (aM.view.readAt (Elt F) r.toLoadRect (QA m ρ c))) Q)
          -∗ wp frame (wpE (defs₀ (F := F)) 𝒱₀ (c : Thread nD τ) none) Set.univ (.op (.load aM r.toLoadRect hl) k) Q) :=
  wp_load 𝒱₀ (c : Thread nD τ) none Set.univ (m := aM) (Finset.subset_univ _)

theorem wp_ldr (c : Dev nD) (s j : ℕ) {off : Fin 4 → ℕ} {inb} (h : off = ![s, j, 0, 0]) {hl} {α : Type} {Q : α → sProp 𝕄}
    {k : ((zrect off inb).toLoadRect.shape.Idx → Elt F .f32) → Prog (TpuEff nD τ sig (Elt F) Λ₀ .tc) α} :
    zrPts c s j (ZR m ρ c) ⊢ iprop((zrPts c s j (ZR m ρ c) -∗ wp frame (wpE (defs₀ (F := F)) 𝒱₀ (c : Thread nD τ) none) Set.univ (k (rM.view.readAt (Elt F) (zrect off inb).toLoadRect (ZR m ρ c))) Q)
          -∗ wp frame (wpE (defs₀ (F := F)) 𝒱₀ (c : Thread nD τ) none) Set.univ (.op (.load rM (zrect off inb).toLoadRect hl) k) Q) :=
  wp_load 𝒱₀ (c : Thread nD τ) none Set.univ (m := rM) (S := zset s j) (by have e := (rM_set s j (inb := inb) h).le; rwa [View.set_slice] at e)

/-- Staging a slot: the value the store leaves is what the transfer is to carry. -/
theorem wp_sts (c : Dev nD) (s j : ℕ) {off : Fin 4 → ℕ} {inb} (h : off = ![s, j, 0, 0]) (w : (zrect off inb).shape.Idx → Elt F .f32)
    (hw : ∀ f : S2x3x256x128.Idx → Elt F .f32, ∀ i ∈ zset s j, (sM.access (zrect off inb)).write (Elt F) f w Finset.univ i = ZS m ρ c i)
    {hl hx hm} {α : Type} {Q : α → sProp 𝕄} {k : PUnit → Prog (TpuEff nD τ sig (Elt F) Λ₀ .tc) α} :
    iprop(∃ f, zsPts c s j f) ⊢ iprop((zsPts c s j (ZS m ρ c) -∗ wp frame (wpE (defs₀ (F := F)) 𝒱₀ (c : Thread nD τ) none) Set.univ (k ⟨⟩) Q)
          -∗ wp frame (wpE (defs₀ (F := F)) 𝒱₀ (c : Thread nD τ) none) Set.univ
            (.op (.load sM (zrect off inb).toLoadRect hl) fun _ => .op (.store sM (zrect off inb) w Finset.univ hx hm) k) Q) := by
  unfold zsPts
  iintro ⟨%f, H⟩ Hk
  iapply (wp_load_rect 𝒱₀ (c : Thread nD τ) none Set.univ (m := sM) (r := zrect off inb) (S := zset s j) (by rw [sM_set s j h])) $$ H
  iintro H
  iapply (wp_store 𝒱₀ (c : Thread nD τ) none Set.univ (m := sM) (r := zrect off inb) (S := zset s j) (Mk := Finset.univ) (by rw [View.setOn_univ, sM_set s j h])) $$ H
  iintro H
  iapply Hk
  iapply (Entails.of_eq (pointsTo_congr (hw f))); iexact H

/-- Accumulating: the value the store leaves is the sum of the four planes' parts. -/
theorem wp_sta (c : Dev nD) (s : ℕ) {off : Fin 3 → ℕ} {inb} (h : off = ![c.val / 4, 256 * s, 0]) (w : (qrect off inb).shape.Idx → Elt F .f32)
    (hw : ∀ f : S4x512x128.Idx → Elt F .f32, ∀ i ∈ qset (c.val / 4) s, (aM.access (qrect off inb)).write (Elt F) f w Finset.univ i = QA m ρ c i)
    {hl hx hm} {α : Type} {Q : α → sProp 𝕄} {k : PUnit → Prog (TpuEff nD τ sig (Elt F) Λ₀ .tc) α} :
    iprop(∃ f, qPts c (c.val / 4) s fullShare f) ⊢ iprop((qPts c (c.val / 4) s (qsh 0) (QA m ρ c) ∗ qPts c (c.val / 4) s (qsh 1) (QA m ρ c) ∗ qPts c (c.val / 4) s (qsh 2) (QA m ρ c)
              -∗ wp frame (wpE (defs₀ (F := F)) 𝒱₀ (c : Thread nD τ) none) Set.univ (k ⟨⟩) Q)
          -∗ wp frame (wpE (defs₀ (F := F)) 𝒱₀ (c : Thread nD τ) none) Set.univ
            (.op (.load aM (qrect off inb).toLoadRect hl) fun _ => .op (.store aM (qrect off inb) w Finset.univ hx hm) k) Q) := by
  iintro ⟨%f, H⟩ Hk
  unfold qPts
  iapply (wp_load_rect 𝒱₀ (c : Thread nD τ) none Set.univ (m := aM) (r := qrect off inb) (S := qset (c.val / 4) s) (by rw [aM_set (c.val / 4) s h])) $$ H
  iintro H
  iapply (wp_store 𝒱₀ (c : Thread nD τ) none Set.univ (m := aM) (r := qrect off inb) (S := qset (c.val / 4) s) (Mk := Finset.univ) (by rw [View.setOn_univ, aM_set (c.val / 4) s h])) $$ H
  iintro H
  iapply Hk
  iapply (q_shares c (c.val / 4) s (QA m ρ c)).1
  unfold qPts
  iapply (Entails.of_eq (pointsTo_congr (hw f))); iexact H

end Memory

end Cert.KernelIdealRun

end
-- ==== Proof.KernelIdealRun.Addr.lean ====
/-
# The addresses the body computes

The devices its signals and sends name, the rectangles its accesses cut, and the semaphores it picks out of the four
arrays, each as this proof names them.
-/
module

public import proofs.«01_k».proof.Proof.KernelIdealRun.Steps

@[expose] public section

noncomputable section

namespace Cert.KernelIdealRun

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Devices -/

theorem dev1_eq (c : Dev nD) : (⟨k0_dev1 c, k0_dev1_lt c⟩ : Dev nD) = zp 1 c := by revert c; decide
theorem dev2_eq (c : Dev nD) : (⟨k0_dev2 c, k0_dev2_lt c⟩ : Dev nD) = zp 2 c := by revert c; decide
theorem dev3_eq (c : Dev nD) : (⟨k0_dev3 c, k0_dev3_lt c⟩ : Dev nD) = zp 3 c := by revert c; decide
theorem dev4_eq (c : Dev nD) : (⟨k0_dev4 c, k0_dev4_lt c⟩ : Dev nD) = xyp 0 c := by revert c; decide
theorem dev5_eq (c : Dev nD) : (⟨k0_dev5 c, k0_dev5_lt c⟩ : Dev nD) = xyp 1 c := by revert c; decide
theorem dev6_eq (c : Dev nD) : (⟨k0_dev6 c, k0_dev6_lt c⟩ : Dev nD) = xyp 2 c := by revert c; decide
theorem dev7_eq (c : Dev nD) : (⟨k0_dev7 c, k0_dev7_lt c⟩ : Dev nD) = zp (0 + 1) c := by revert c; decide
theorem dev8_eq (c : Dev nD) : (⟨k0_dev8 c, k0_dev8_lt c⟩ : Dev nD) = zp (1 + 1) c := by revert c; decide
theorem dev9_eq (c : Dev nD) : (⟨k0_dev9 c, k0_dev9_lt c⟩ : Dev nD) = zp (2 + 1) c := by revert c; decide
theorem dev10_eq (c : Dev nD) : (⟨k0_dev10 c, k0_dev10_lt c⟩ : Dev nD) = zp (0 + 1) c := by revert c; decide
theorem dev11_eq (c : Dev nD) : (⟨k0_dev11 c, k0_dev11_lt c⟩ : Dev nD) = zp (1 + 1) c := by revert c; decide
theorem dev12_eq (c : Dev nD) : (⟨k0_dev12 c, k0_dev12_lt c⟩ : Dev nD) = zp (2 + 1) c := by revert c; decide
theorem dev13_eq (c : Dev nD) : (⟨k0_dev13 c, k0_dev13_lt c⟩ : Dev nD) = xyp 0 c := by revert c; decide
theorem dev14_eq (c : Dev nD) : (⟨k0_dev14 c, k0_dev14_lt c⟩ : Dev nD) = xyp 1 c := by revert c; decide
theorem dev15_eq (c : Dev nD) : (⟨k0_dev15 c, k0_dev15_lt c⟩ : Dev nD) = xyp 2 c := by revert c; decide
theorem dev16_eq (c : Dev nD) : (⟨k0_dev16 c, k0_dev16_lt c⟩ : Dev nD) = xyp 0 c := by revert c; decide
theorem dev17_eq (c : Dev nD) : (⟨k0_dev17 c, k0_dev17_lt c⟩ : Dev nD) = xyp 1 c := by revert c; decide
theorem dev18_eq (c : Dev nD) : (⟨k0_dev18 c, k0_dev18_lt c⟩ : Dev nD) = xyp 2 c := by revert c; decide

/-! ## Rectangles -/

theorem off1_00 (c : Dev nD) : k0_off1 c 0#32 0#32 = ![0, 512 * ((c.val % 4 + 0 + 1) % 4) + 256 * 0, 128 * (c.val / 4)] := by revert c; decide
theorem off1_01 (c : Dev nD) : k0_off1 c 1#32 0#32 = ![0, 512 * ((c.val % 4 + 1 + 1) % 4) + 256 * 0, 128 * (c.val / 4)] := by revert c; decide
theorem off1_02 (c : Dev nD) : k0_off1 c 2#32 0#32 = ![0, 512 * ((c.val % 4 + 2 + 1) % 4) + 256 * 0, 128 * (c.val / 4)] := by revert c; decide
theorem off1_10 (c : Dev nD) : k0_off1 c 0#32 256#32 = ![0, 512 * ((c.val % 4 + 0 + 1) % 4) + 256 * 1, 128 * (c.val / 4)] := by revert c; decide
theorem off1_11 (c : Dev nD) : k0_off1 c 1#32 256#32 = ![0, 512 * ((c.val % 4 + 1 + 1) % 4) + 256 * 1, 128 * (c.val / 4)] := by revert c; decide
theorem off1_12 (c : Dev nD) : k0_off1 c 2#32 256#32 = ![0, 512 * ((c.val % 4 + 2 + 1) % 4) + 256 * 1, 128 * (c.val / 4)] := by revert c; decide
theorem off2_0 (c : Dev nD) : k0_off2 c 0#32 = ![0, 512 * (c.val % 4) + 256 * 0, 128 * (c.val / 4)] := by revert c; decide
theorem off2_1 (c : Dev nD) : k0_off2 c 256#32 = ![0, 512 * (c.val % 4) + 256 * 1, 128 * (c.val / 4)] := by revert c; decide
theorem off3_0 (c : Dev nD) : k0_off3 c = ![c.val / 4, 256 * 0, 0] := by revert c; decide
theorem off4_0 (c : Dev nD) : k0_off4 c = ![c.val / 4, 256 * 0, 0] := by revert c; decide
theorem off5_1 (c : Dev nD) : k0_off5 c = ![c.val / 4, 256 * 1, 0] := by revert c; decide
theorem off6_1 (c : Dev nD) : k0_off6 c = ![c.val / 4, 256 * 1, 0] := by revert c; decide

/-! ## Semaphores -/

/-- The semaphore at a place of one of the four arrays. -/
abbrev semAt (A : DmaSems sig S2x3) (o : Fin 2 → ℕ) (inb : ∀ a, o a + S1x1.size a ≤ S2x3.size a) : DmaSem sig :=
  ((A.slice (Rect.unit (s := S2x3) o S1x1.size inb)).squeeze S_ squeezes_S1x1_S_).sem
theorem sem0_00 {inb} : semAt cc0_scratch3 ![0, 0] inb = dsem (xn 0 0 0) := by revert inb; decide
theorem sem0_01 {inb} : semAt cc0_scratch3 ![0, 1] inb = dsem (xn 0 0 1) := by revert inb; decide
theorem sem0_02 {inb} : semAt cc0_scratch3 ![0, 2] inb = dsem (xn 0 0 2) := by revert inb; decide
theorem sem0_10 {inb} : semAt cc0_scratch3 ![1, 0] inb = dsem (xn 0 1 0) := by revert inb; decide
theorem sem0_11 {inb} : semAt cc0_scratch3 ![1, 1] inb = dsem (xn 0 1 1) := by revert inb; decide
theorem sem0_12 {inb} : semAt cc0_scratch3 ![1, 2] inb = dsem (xn 0 1 2) := by revert inb; decide
theorem sem1_00 {inb} : semAt cc0_scratch4 ![0, 0] inb = dsem (xn 0 0 0 + 6) := by revert inb; decide
theorem sem1_01 {inb} : semAt cc0_scratch4 ![0, 1] inb = dsem (xn 0 0 1 + 6) := by revert inb; decide
theorem sem1_02 {inb} : semAt cc0_scratch4 ![0, 2] inb = dsem (xn 0 0 2 + 6) := by revert inb; decide
theorem sem1_10 {inb} : semAt cc0_scratch4 ![1, 0] inb = dsem (xn 0 1 0 + 6) := by revert inb; decide
theorem sem1_11 {inb} : semAt cc0_scratch4 ![1, 1] inb = dsem (xn 0 1 1 + 6) := by revert inb; decide
theorem sem1_12 {inb} : semAt cc0_scratch4 ![1, 2] inb = dsem (xn 0 1 2 + 6) := by revert inb; decide
theorem sem2_00 {inb} : semAt cc0_scratch5 ![0, 0] inb = dsem (xn 2 0 0) := by revert inb; decide
theorem sem2_01 {inb} : semAt cc0_scratch5 ![0, 1] inb = dsem (xn 2 0 1) := by revert inb; decide
theorem sem2_02 {inb} : semAt cc0_scratch5 ![0, 2] inb = dsem (xn 2 0 2) := by revert inb; decide
theorem sem2_10 {inb} : semAt cc0_scratch5 ![1, 0] inb = dsem (xn 2 1 0) := by revert inb; decide
theorem sem2_11 {inb} : semAt cc0_scratch5 ![1, 1] inb = dsem (xn 2 1 1) := by revert inb; decide
theorem sem2_12 {inb} : semAt cc0_scratch5 ![1, 2] inb = dsem (xn 2 1 2) := by revert inb; decide
theorem sem3_00 {inb} : semAt cc0_scratch6 ![0, 0] inb = dsem (xn 2 0 0 + 6) := by revert inb; decide
theorem sem3_01 {inb} : semAt cc0_scratch6 ![0, 1] inb = dsem (xn 2 0 1 + 6) := by revert inb; decide
theorem sem3_02 {inb} : semAt cc0_scratch6 ![0, 2] inb = dsem (xn 2 0 2 + 6) := by revert inb; decide
theorem sem3_10 {inb} : semAt cc0_scratch6 ![1, 0] inb = dsem (xn 2 1 0 + 6) := by revert inb; decide
theorem sem3_11 {inb} : semAt cc0_scratch6 ![1, 1] inb = dsem (xn 2 1 1 + 6) := by revert inb; decide
theorem sem3_12 {inb} : semAt cc0_scratch6 ![1, 2] inb = dsem (xn 2 1 2 + 6) := by revert inb; decide

/-! ## Levels -/

theorem lvl_bar (c : Dev nD) : ∀ p ∈ (dues c).drop 6, p.1.1.2 = .tc ∧ lvs (.reg barS) < lvs p.1.2 := by
  intro p hp
  simp only [dues, duesZ, duesQ, List.cons_append, List.nil_append, List.drop_succ_cons, List.drop_zero, List.mem_cons, List.not_mem_nil, or_false] at hp
  rcases hp with h | h | h | h | h | h | h | h | h | h | h | h <;> subst h <;> exact ⟨rfl, by dsimp only; decide⟩
theorem lvl_q (c : Dev nD) (n : ℕ) (hn : n < 12) : ∀ p ∈ duesQ c, p.1.1.2 = .tc ∧ lvs (.dma (dsem n)) < lvs p.1.2 := by
  intro p hp
  have h3 : lvs (.dma (dsem n)) < 3 := by interval_cases n <;> decide
  simp only [duesQ, List.mem_cons, List.not_mem_nil, or_false] at hp
  rcases hp with h | h | h | h | h | h <;> subst h <;> exact ⟨rfl, h3⟩
theorem lvl_12 (c : Dev nD) (n : ℕ) (hn : n < 12) : ∀ p ∈ (dues c).drop 12, p.1.1.2 = .tc ∧ lvs (.dma (dsem n)) < lvs p.1.2 := lvl_q c n hn
theorem lvl_15 (c : Dev nD) (n : ℕ) (hn : n < 12) : ∀ p ∈ (dues c).drop 15, p.1.1.2 = .tc ∧ lvs (.dma (dsem n)) < lvs p.1.2 :=
  fun p hp => lvl_q c n hn p (List.mem_of_mem_drop (i := 3) hp)
theorem lvl_18 (c : Dev nD) (n : ℕ) : ∀ p ∈ (dues c).drop 18, p.1.1.2 = .tc ∧ lvs (.dma (dsem n)) < lvs p.1.2 :=
  fun p hp => absurd hp List.not_mem_nil

end Cert.KernelIdealRun

end
-- ==== Proof.KernelIdealRun.Out.lean ====
/-
# What the last phase writes

The last phase reads the summed block of the plane and gamma, computes one factor for every row, and stores the result
column quarter by column quarter. `OUT` is the result, and the four stores leave it whatever the buffer held before.
-/
module

public import proofs.«01_k».proof.Proof.KernelIdealRun.Steps

@[expose] public section

noncomputable section

namespace Cert.KernelIdealRun

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The column quarter `q` of the summed block, as it is loaded. -/
def ldA (c : Dev nD) (off : Fin 3 → ℕ) (inb : ∀ a, off a + S1x512x128.size a ≤ S4x512x128.size a) : Vec F S1x512x128 .f32 :=
  aM.view.readAt (Elt F) (Rect.unit (s := S4x512x128) off S1x512x128.size inb).toLoadRect (QA m ρ c)
/-- A quarter of gamma, as it is loaded. -/
def ldG (c : Dev nD) (off : Fin 1 → ℕ) (inb : ∀ a, off a + S128.size a ≤ S512.size a) : Vec F S128 .f32 :=
  gM.view.readAt (Elt F) (Rect.unit (s := S512) off S128.size inb).toLoadRect (gstg m ρ c)

/-- The four quarters of the summed block. -/
abbrev a0 (c : Dev nD) : Vec F S1x512x128 .f32 := ldA m ρ c ![0, 0, 0] inb_S4x512x128_S1x512x128_0_0_0
abbrev a1 (c : Dev nD) : Vec F S1x512x128 .f32 := ldA m ρ c ![1, 0, 0] inb_S4x512x128_S1x512x128_1_0_0
abbrev a2 (c : Dev nD) : Vec F S1x512x128 .f32 := ldA m ρ c ![2, 0, 0] inb_S4x512x128_S1x512x128_2_0_0
abbrev a3 (c : Dev nD) : Vec F S1x512x128 .f32 := ldA m ρ c ![3, 0, 0] inb_S4x512x128_S1x512x128_3_0_0
/-- The four quarters of gamma. -/
abbrev g0 (c : Dev nD) : Vec F S128 .f32 := ldG m ρ c ![0] inb_S512_S128_0
abbrev g1 (c : Dev nD) : Vec F S128 .f32 := ldG m ρ c ![128] inb_S512_S128_128
abbrev g2 (c : Dev nD) : Vec F S128 .f32 := ldG m ρ c ![256] inb_S512_S128_256
abbrev g3 (c : Dev nD) : Vec F S128 .f32 := ldG m ρ c ![384] inb_S512_S128_384

/-- The factor of every row. -/
def rowF (c : Dev nD) : FVec F S512x1 .f32 :=
  k0_pay14 (k0_pay12 (a0 m ρ c) (a0 m ρ c)) (k0_pay13 (a1 m ρ c)) (a1 m ρ c) (a2 m ρ c) (a2 m ρ c) (a3 m ρ c) (a3 m ρ c)

/-- What is stored in each column quarter. -/
def col0 (c : Dev nD) : FVec F S512x128 .f32 :=
  k0_pay15 (k0_pay12 (a0 m ρ c) (a0 m ρ c)) (k0_pay13 (a1 m ρ c)) (a1 m ρ c) (a2 m ρ c) (a2 m ρ c) (a3 m ρ c) (a3 m ρ c) (a0 m ρ c) (g0 m ρ c)
def col1 (c : Dev nD) : FVec F S512x128 .f32 := k0_pay16 (rowF m ρ c) (a1 m ρ c) (g1 m ρ c)
def col2 (c : Dev nD) : FVec F S512x128 .f32 := k0_pay17 (rowF m ρ c) (a2 m ρ c) (g2 m ρ c)
def col3 (c : Dev nD) : FVec F S512x128 .f32 := k0_pay1 (rowF m ρ c) (a3 m ρ c) (g3 m ρ c)

/-- The result on device `c`. -/
def OUT (c : Dev nD) : S512x512.Idx → Elt F .f32 := fun i =>
  (if (i 1).val < 128 then col0 m ρ c else if (i 1).val < 256 then col1 m ρ c else if (i 1).val < 384 then col2 m ρ c else col3 m ρ c)
    (ix2 (i 0) ⟨(i 1).val % 128, Nat.mod_lt _ (by decide)⟩)

/-- The rectangle of a column quarter. -/
abbrev orect (off : Fin 2 → ℕ) (inb : ∀ a, off a + S512x128.size a ≤ S512x512.size a) : Rect S512x512 :=
  Rect.unit (s := S512x512) off S512x128.size inb

omit [FloatOps F] in
/-- A store into a column quarter: the stored value inside, what was there outside. -/
theorem store_o {C : ℕ} {off : Fin 2 → ℕ} {inb} (h : off = ![0, C]) (f : S512x512.Idx → Elt F .f32) (w : S512x128.Idx → Elt F .f32) (i : S512x512.Idx) :
    (oM.access (orect off inb)).write (Elt F) f w Finset.univ i
      = if hc : C ≤ (i 1).val ∧ (i 1).val < C + 128 then w (ix2 (i 0) ⟨(i 1).val - C, by omega⟩) else f i := by
  subst h
  split
  next hc =>
    have he : (orect ![0, C] inb).emb (ix2 (i 0) ⟨(i 1).val - C, by omega⟩) = i := by
      funext a
      apply Fin.ext
      fin_cases a
      · show 0 + 1 * (i 0).val = (i 0).val; omega
      · show C + 1 * ((i 1).val - C) = (i 1).val; omega
    have hw := (oM.access (orect ![0, C] inb)).write_emb_of_mem (Val := Elt F) f w (M := Finset.univ) (x := ix2 (i 0) ⟨(i 1).val - C, by omega⟩) (Finset.mem_univ _)
    rw [show (oM.access (orect ![0, C] inb)).emb (ix2 (i 0) ⟨(i 1).val - C, by omega⟩) = i from he] at hw
    exact hw
  next hc =>
    refine View.write_of_not_mem _ _ _ ?_
    intro hi
    apply hc
    have : i ∈ (orect ![0, C] inb).set := by
      have e : (oM.access (orect ![0, C] inb)).set = (orect ![0, C] inb).set := View.set_slice_whole _ _
      rw [← e]
      exact hi
    rw [Rect.mem_set_unit] at this
    have := this 1
    simpa using this

/-- The four stores leave the result, whatever was there before. -/
theorem out_eq (c : Dev nD) (f : S512x512.Idx → Elt F .f32) {i0 i1 i2 i3} :
    (oM.access (orect ![0, 384] i3)).write (Elt F) ((oM.access (orect ![0, 256] i2)).write (Elt F) ((oM.access (orect ![0, 128] i1)).write (Elt F)
      ((oM.access (orect ![0, 0] i0)).write (Elt F) f (col0 m ρ c) Finset.univ) (col1 m ρ c) Finset.univ) (col2 m ρ c) Finset.univ) (col3 m ρ c) Finset.univ
      = OUT m ρ c := by
  funext i
  rw [store_o rfl]
  have hi : (i 1).val < 512 := (i 1).isLt
  unfold OUT
  split
  next h =>
    rw [if_neg (by omega), if_neg (by omega), if_neg (by omega)]
    exact congrArg (fun x => col3 m ρ c (ix2 (i 0) x)) (Fin.ext (by show (i 1).val - 384 = (i 1).val % 128; omega))
  next h =>
    rw [store_o rfl]
    split
    next h =>
      rw [if_neg (by omega), if_neg (by omega), if_pos (by omega)]
      exact congrArg (fun x => col2 m ρ c (ix2 (i 0) x)) (Fin.ext (by show (i 1).val - 256 = (i 1).val % 128; omega))
    next h =>
      rw [store_o rfl]
      split
      next h =>
        rw [if_neg (by omega), if_pos (by omega)]
        exact congrArg (fun x => col1 m ρ c (ix2 (i 0) x)) (Fin.ext (by show (i 1).val - 128 = (i 1).val % 128; omega))
      next h =>
        rw [store_o rfl, dif_pos (by omega), if_pos (by omega)]
        exact congrArg (fun x => col0 m ρ c (ix2 (i 0) x)) (Fin.ext (by show (i 1).val - 0 = (i 1).val % 128; omega))

end Cert.KernelIdealRun

end
-- ==== Proof.KernelIdealRun.Waits.lean ====
/-
# The waits of the four families, and the accumulator whole again

A wait on each family of transfer semaphores, with what the completion hands over.
-/
module

public import proofs.«01_k».proof.Proof.KernelIdealRun.Addr
public import proofs.«01_k».proof.Proof.KernelIdealRun.Out

@[expose] public section

noncomputable section

namespace Cert.KernelIdealRun

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Fin 25 → ℕ)

/-- The wait for a send along `z`. -/
theorem wp_zsw (c : Dev nD) (s j : ℕ) (hs : s < 2) (hj : j < 3) (sm : DmaSem sig) (hsm : sm = dsem (xn 0 s j))
    {src : Memref sig .tc .vmem S256x128 .f32} {dst : Memref sig .tc .vmem S256x128 .f32} {h h'} (hN : dst.view.dmaCredit = N)
    (l : List (GSem nD τ sig × ℕ)) (hl : ∀ p ∈ l, p.1.1.2 = .tc ∧ lvs (.dma (dsem (xn 0 s j))) < lvs p.1.2)
    {α : Type} {Q : α → sProp 𝕄} {k : PUnit → Prog (TpuEff nD τ sig (Elt F) Λ₀ .tc) α} :
    iprop(records m ρ K ∗ levAts L lv ∗ owesS c (tal l) ∗ CI c (xn 0 s j))
      ⊢ iprop(((owesS c (tal l) ∗ semVal (dcell c (xn 0 s j)) 0 ∗ zsPts c s j (ZS m ρ c))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sm src dst h h') k) Q) := by
  have e : xferPay m ρ c (xn 0 s j) = zsPts c s j (ZS m ρ c) := by
    rw [show xn 0 s j = xn 0 s j by unfold xn; omega]; exact xferPay_zs m ρ c hs hj
  have := wp_xwait m ρ K c (xn 0 s j) (by unfold xn; omega) sm hsm (hs := h) (hd := h') (src := src) hN l hl (Q := Q) (k := k)
  rw [e] at this
  exact this

/-- The wait for an arrival along `z`. -/
theorem wp_zrw (c : Dev nD) (s j : ℕ) (hs : s < 2) (hj : j < 3) (sm : DmaSem sig) (hsm : sm = dsem (xn 0 s j + 6))
    {src : Memref sig .tc .vmem S256x128 .f32} {dst : Memref sig .tc .vmem S256x128 .f32} {h h'} (hN : dst.view.dmaCredit = N)
    (l : List (GSem nD τ sig × ℕ)) (hl : ∀ p ∈ l, p.1.1.2 = .tc ∧ lvs (.dma (dsem (xn 0 s j + 6))) < lvs p.1.2)
    {α : Type} {Q : α → sProp 𝕄} {k : PUnit → Prog (TpuEff nD τ sig (Elt F) Λ₀ .tc) α} :
    iprop(records m ρ K ∗ levAts L lv ∗ owesS c (tal l) ∗ CI c (xn 0 s j + 6))
      ⊢ iprop(((owesS c (tal l) ∗ semVal (dcell c (xn 0 s j + 6)) 0 ∗ zrPts c s j (ZR m ρ c))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sm src dst h h') k) Q) := by
  have e : xferPay m ρ c (xn 0 s j + 6) = zrPts c s j (ZR m ρ c) := by
    rw [show xn 0 s j + 6 = xn 1 s j by unfold xn; omega]; exact xferPay_zr m ρ c hs hj
  have := wp_xwait m ρ K c (xn 0 s j + 6) (by unfold xn; omega) sm hsm (hs := h) (hd := h') (src := src) hN l hl (Q := Q) (k := k)
  rw [e] at this
  exact this

/-- The wait for a send in the plane. -/
theorem wp_qsw (c : Dev nD) (s j : ℕ) (hs : s < 2) (hj : j < 3) (sm : DmaSem sig) (hsm : sm = dsem (xn 2 s j))
    {src : Memref sig .tc .vmem S256x128 .f32} {dst : Memref sig .tc .vmem S256x128 .f32} {h h'} (hN : dst.view.dmaCredit = N)
    (l : List (GSem nD τ sig × ℕ)) (hl : ∀ p ∈ l, p.1.1.2 = .tc ∧ lvs (.dma (dsem (xn 2 s j))) < lvs p.1.2)
    {α : Type} {Q : α → sProp 𝕄} {k : PUnit → Prog (TpuEff nD τ sig (Elt F) Λ₀ .tc) α} :
    iprop(records m ρ K ∗ levAts L lv ∗ owesS c (tal l) ∗ CI c (xn 2 s j))
      ⊢ iprop(((owesS c (tal l) ∗ semVal (dcell c (xn 2 s j)) 0 ∗ qPts c (c.val / 4) s (qsh j) (QA m ρ c))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sm src dst h h') k) Q) := by
  have e : xferPay m ρ c (xn 2 s j) = qPts c (c.val / 4) s (qsh j) (QA m ρ c) := by
    rw [show xn 2 s j = xn 2 s j by unfold xn; omega]; exact xferPay_qs m ρ c hs hj
  have := wp_xwait m ρ K c (xn 2 s j) (by unfold xn; omega) sm hsm (hs := h) (hd := h') (src := src) hN l hl (Q := Q) (k := k)
  rw [e] at this
  exact this

/-- The wait for an arrival in the plane. -/
theorem wp_qrw (c : Dev nD) (s j : ℕ) (hs : s < 2) (hj : j < 3) (sm : DmaSem sig) (hsm : sm = dsem (xn 2 s j + 6))
    {src : Memref sig .tc .vmem S256x128 .f32} {dst : Memref sig .tc .vmem S256x128 .f32} {h h'} (hN : dst.view.dmaCredit = N)
    (l : List (GSem nD τ sig × ℕ)) (hl : ∀ p ∈ l, p.1.1.2 = .tc ∧ lvs (.dma (dsem (xn 2 s j + 6))) < lvs p.1.2)
    {α : Type} {Q : α → sProp 𝕄} {k : PUnit → Prog (TpuEff nD τ sig (Elt F) Λ₀ .tc) α} :
    iprop(records m ρ K ∗ levAts L lv ∗ owesS c (tal l) ∗ CI c (xn 2 s j + 6))
      ⊢ iprop(((owesS c (tal l) ∗ semVal (dcell c (xn 2 s j + 6)) 0 ∗ qPts c (qx j (c.val / 4)) s fullShare (QA m ρ c))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sm src dst h h') k) Q) := by
  have e : xferPay m ρ c (xn 2 s j + 6) = qPts c (qx j (c.val / 4)) s fullShare (QA m ρ c) := by
    rw [show xn 2 s j + 6 = xn 3 s j by unfold xn; omega]; exact xferPay_qr m ρ c hs hj
  have := wp_xwait m ρ K c (xn 2 s j + 6) (by unfold xn; omega) sm hsm (hs := h) (hd := h') (src := src) hN l hl (Q := Q) (k := k)
  rw [e] at this
  exact this

/-- The result's staging buffer of device `c`, holding `f`. -/
def oPts (c : Dev nD) (f : S512x512.Idx → Elt F .f32) : sProp 𝕄 :=
  ((c : Thread nD τ).loc cc0_stg2_0) ↦{fullShare} (f : Buf (Elt F) ((c : Thread nD τ).loc cc0_stg2_0))

/-- A store into a column quarter of the result. -/
theorem wp_sto (c : Dev nD) (f : S512x512.Idx → Elt F .f32) {off inb} (w : S512x128.Idx → Elt F .f32)
    {hl hx hm} {α : Type} {Q : α → sProp 𝕄} {k : PUnit → Prog (TpuEff nD τ sig (Elt F) Λ₀ .tc) α} :
    oPts c f ⊢ iprop((oPts c ((oM.access (orect off inb)).write (Elt F) f w Finset.univ)
              -∗ wp frame (wpE (defs₀ (F := F)) 𝒱₀ (c : Thread nD τ) none) Set.univ (k ⟨⟩) Q)
          -∗ wp frame (wpE (defs₀ (F := F)) 𝒱₀ (c : Thread nD τ) none) Set.univ
            (.op (.load oM (orect off inb).toLoadRect hl) fun _ => .op (.store oM (orect off inb) w Finset.univ hx hm) k) Q) := by
  unfold oPts
  iintro H Hk
  iapply (wp_load 𝒱₀ (c : Thread nD τ) none Set.univ (m := oM) (Finset.subset_univ _)) $$ H
  iintro H
  iapply (wp_store 𝒱₀ (c : Thread nD τ) none Set.univ (m := oM) (r := orect off inb) (Mk := Finset.univ) (Finset.subset_univ _)) $$ H
  iintro H
  iapply Hk
  iexact H

/-- A device's own two segments, share by share, and the six segments of its peers are the whole accumulator. -/
theorem q_join (c : Dev nD) :
    iprop(qPts c (c.val / 4) 0 (qsh 0) (QA m ρ c) ∗ qPts c (c.val / 4) 0 (qsh 1) (QA m ρ c) ∗ qPts c (c.val / 4) 0 (qsh 2) (QA m ρ c)
        ∗ qPts c (c.val / 4) 1 (qsh 0) (QA m ρ c) ∗ qPts c (c.val / 4) 1 (qsh 1) (QA m ρ c) ∗ qPts c (c.val / 4) 1 (qsh 2) (QA m ρ c)
        ∗ qPts c (qx 0 (c.val / 4)) 0 fullShare (QA m ρ c) ∗ qPts c (qx 0 (c.val / 4)) 1 fullShare (QA m ρ c)
        ∗ qPts c (qx 1 (c.val / 4)) 0 fullShare (QA m ρ c) ∗ qPts c (qx 1 (c.val / 4)) 1 fullShare (QA m ρ c)
        ∗ qPts c (qx 2 (c.val / 4)) 0 fullShare (QA m ρ c) ∗ qPts c (qx 2 (c.val / 4)) 1 fullShare (QA m ρ c))
      ⊢ aPts m ρ c := by
  unfold aPts
  rw [q_split c (QA m ρ c)]
  iintro ⟨A0, A1, A2, B0, B1, B2, C0, C1, D0, D1, E0, E1⟩
  isplitl [A0 A1 A2 B0 B1 B2]
  · isplitl [A0 A1 A2]
    · iapply (q_shares c (c.val / 4) 0 (QA m ρ c)).2
      isplitl [A0]; · iexact A0
      isplitl [A1] <;> iassumption
    · iapply (q_shares c (c.val / 4) 1 (QA m ρ c)).2
      isplitl [B0]; · iexact B0
      isplitl [B1] <;> iassumption
  isplitl [C0 C1]; · isplitl [C0] <;> iassumption
  isplitl [D0 D1]; · isplitl [D0] <;> iassumption
  isplitl [E0] <;> iassumption

end Cert.KernelIdealRun

end
-- ==== Proof.KernelIdealRun.PartsA.lean ====
/-
# The body's parts: the barrier and the sends along `z`

Each theorem takes one printed part of the body, what it starts from and what it leaves.
-/
module

public import proofs.«01_k».proof.Proof.KernelIdealRun.Addr
public import proofs.«01_k».proof.Proof.KernelIdealRun.Waits
public import proofs.«01_k».proof.Proof.KernelIdealRun.Out

@[expose] public section

noncomputable section

namespace Cert.KernelIdealRun

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Fin 25 → ℕ)

/-- The first signal, to the next device along `z`. -/
theorem wp_part1 (c : Dev nD)   (Kt : _ → sProp 𝕄) :
    iprop(records m ρ K ∗ owesS c (tal ((dues c).drop 0)) ∗ dutyTok ER (barCell (zp 1 c)) 0 2 ∗ barPay (zp 1 c) 2)
      ⊢ iprop((∀ v2 v5 v8 v10 v31 v32 v33, (owesS c (tal ((dues c).drop 1))) -∗ Kt (⟨c, v2, v5, v8, v10, SemArray.scalar (sig.barrier 0 rfl), v31, v32, v33⟩))
          -∗ wp frame (wpE (defs₀ (F := F)) 𝒱₀ (c : Thread nD τ) none) Set.univ
              (k0_part1 xM (Memref.isWhole_whole _) gM (Memref.isWhole_whole _) oM (Memref.isWhole_whole _) sM (Memref.isWhole_whole _) rM (Memref.isWhole_whole _) aM (Memref.isWhole_whole _) cc0_scratch3 cc0_scratch4 cc0_scratch5 cc0_scratch6) Kt) := by
  rw [k0_part1_eq_skeleton]; unfold k0_part1_skel
  simp only [semSignalWord, semWaitWord, Prog.lift, Prog.bind_op, Prog.bind_ret, Prog.pure_eq_ret, wp_deviceId]
  iintro ⟨#HR, HO, Tb2, Pb2⟩ Hk
  iapply (wp_sig m ρ K c (zp 1 c) _ (dev1_eq c) 2 (T := tal ((dues c).drop 0)) (T' := tal ((dues c).drop 1)) rfl) $$ [HO Tb2 Pb2]
  · isplitr; · iexact HR
    isplitl [HO]; · iexact HO
    isplitl [Tb2]; · iexact Tb2
    iexact Pb2
  iintro HO
  rw [wp_ret]; imodintro
  iapply Hk $$ %_ %_ %_ %_ %_ %_ %_ [HO]
  iexact HO

/-- The signals to the other two devices of the column. -/
theorem wp_part2 (c : Dev nD) (v2 : BitVec 32) (v5 : BitVec 32) (v8 : BitVec 32) (v31 : BitVec 32) (v32 : BitVec 32) (v33 : BitVec 1)  (Kt : _ → sProp 𝕄) :
    iprop(records m ρ K ∗ owesS c (tal ((dues c).drop 1)) ∗ dutyTok ER (barCell (zp 2 c)) 0 1 ∗ barPay (zp 2 c) 1 ∗ dutyTok ER (barCell (zp 3 c)) 0 0 ∗ barPay (zp 3 c) 0)
      ⊢ iprop((∀ r, (owesS c (tal ((dues c).drop 3))) -∗ Kt r)
          -∗ wp frame (wpE (defs₀ (F := F)) 𝒱₀ (c : Thread nD τ) none) Set.univ
              (k0_part2 xM (Memref.isWhole_whole _) gM (Memref.isWhole_whole _) oM (Memref.isWhole_whole _) sM (Memref.isWhole_whole _) rM (Memref.isWhole_whole _) aM (Memref.isWhole_whole _) cc0_scratch3 cc0_scratch4 cc0_scratch5 cc0_scratch6 c v2 v5 v8 (SemArray.scalar (sig.barrier 0 rfl)) v31 v32 v33) Kt) := by
  rw [k0_part2_eq_skeleton]; unfold k0_part2_skel
  simp only [semSignalWord, semWaitWord, Prog.lift, Prog.bind_op, Prog.bind_ret, Prog.pure_eq_ret, wp_deviceId]
  iintro ⟨#HR, HO, Tb1, Pb1, Tb0, Pb0⟩ Hk
  iapply (wp_sig m ρ K c (zp 2 c) _ (dev2_eq c) 1 (T := tal ((dues c).drop 1)) (T' := tal ((dues c).drop 2)) rfl) $$ [HO Tb1 Pb1]
  · isplitr; · iexact HR
    isplitl [HO]; · iexact HO
    isplitl [Tb1]; · iexact Tb1
    iexact Pb1
  iintro HO
  iapply (wp_sig m ρ K c (zp 3 c) _ (dev3_eq c) 0 (T := tal ((dues c).drop 2)) (T' := tal ((dues c).drop 3)) rfl) $$ [HO Tb0 Pb0]
  · isplitr; · iexact HR
    isplitl [HO]; · iexact HO
    isplitl [Tb0]; · iexact Tb0
    iexact Pb0
  iintro HO
  rw [wp_ret]; imodintro
  iapply Hk $$ %_ [HO]
  iexact HO

/-- The signals to the three peers in the plane, and the wait for all six of its own. -/
theorem wp_part3 (c : Dev nD) (v2 : BitVec 32) (v5 : BitVec 32) (v8 : BitVec 32) (v63 : BitVec 32) (v64 : BitVec 32) (v65 : BitVec 32) (v66 : BitVec 32) (c8_i32_42 : BitVec 32)  (Kt : _ → sProp 𝕄) :
    iprop(records m ρ K ∗ levAts L lv ∗ owesS c (tal ((dues c).drop 3)) ∗ dutyTok ER (barCell (xyp 0 c)) 0 3 ∗ barPay (xyp 0 c) 3 ∗ dutyTok ER (barCell (xyp 1 c)) 0 4 ∗ barPay (xyp 1 c) 4 ∗ dutyTok ER (barCell (xyp 2 c)) 0 5 ∗ barPay (xyp 2 c) 5 ∗ cred (tallyAt (barCell c) () 6) ∗ atPos ER (barCell c) 0 ∅ 0)
      ⊢ iprop((∀ r, (owesS c (tal ((dues c).drop 6)) ∗ semVal (barCell c) 0 ∗ barPay c 0 ∗ barPay c 1 ∗ barPay c 2 ∗ barPay c 3 ∗ barPay c 4 ∗ barPay c 5) -∗ Kt r)
          -∗ wp frame (wpE (defs₀ (F := F)) 𝒱₀ (c : Thread nD τ) none) Set.univ
              (k0_part3 xM (Memref.isWhole_whole _) gM (Memref.isWhole_whole _) oM (Memref.isWhole_whole _) sM (Memref.isWhole_whole _) rM (Memref.isWhole_whole _) aM (Memref.isWhole_whole _) cc0_scratch3 cc0_scratch4 cc0_scratch5 cc0_scratch6 c v2 v5 v8 (SemArray.scalar (sig.barrier 0 rfl)) v63 v64 v65 v66 c8_i32_42) Kt) := by
  rw [k0_part3_eq_skeleton]; unfold k0_part3_skel
  simp only [semSignalWord, semWaitWord, Prog.lift, Prog.bind_op, Prog.bind_ret, Prog.pure_eq_ret, wp_deviceId]
  iintro ⟨#HR, #Hlev, HO, Tb3, Pb3, Tb4, Pb4, Tb5, Pb5, CB, AB⟩ Hk
  iapply (wp_sig m ρ K c (xyp 0 c) _ (dev4_eq c) 3 (T := tal ((dues c).drop 3)) (T' := tal ((dues c).drop 4)) rfl) $$ [HO Tb3 Pb3]
  · isplitr; · iexact HR
    isplitl [HO]; · iexact HO
    isplitl [Tb3]; · iexact Tb3
    iexact Pb3
  iintro HO
  iapply (wp_sig m ρ K c (xyp 1 c) _ (dev5_eq c) 4 (T := tal ((dues c).drop 4)) (T' := tal ((dues c).drop 5)) rfl) $$ [HO Tb4 Pb4]
  · isplitr; · iexact HR
    isplitl [HO]; · iexact HO
    isplitl [Tb4]; · iexact Tb4
    iexact Pb4
  iintro HO
  iapply (wp_sig m ρ K c (xyp 2 c) _ (dev6_eq c) 5 (T := tal ((dues c).drop 5)) (T' := tal ((dues c).drop 6)) rfl) $$ [HO Tb5 Pb5]
  · isplitr; · iexact HR
    isplitl [HO]; · iexact HO
    isplitl [Tb5]; · iexact Tb5
    iexact Pb5
  iintro HO
  iapply (wp_barwait m ρ K c ((dues c).drop 6) (lvl_bar c)) $$ [HO CB AB]
  · isplitr; · iexact HR
    isplitr; · iexact Hlev
    isplitl [HO]; · iexact HO
    isplitl [CB]; · iexact CB
    iexact AB
  iintro ⟨HO, ZB, B0, B1, B2, B3, B4, B5⟩
  rw [wp_ret]; imodintro
  iapply Hk $$ %_ [HO ZB B0 B1 B2 B3 B4 B5]
  isplitl [HO]; · iexact HO
  isplitl [ZB]; · iexact ZB
  isplitl [B0]; · iexact B0
  isplitl [B1]; · iexact B1
  isplitl [B2]; · iexact B2
  isplitl [B3]; · iexact B3
  isplitl [B4]; · iexact B4
  iexact B5

/-- Stages and sends slot (0, 0). -/
theorem wp_part4 (c : Dev nD) (v2 : BitVec 32) (v5 : BitVec 32) (v8 : BitVec 32) (v10 : BitVec 32) (v96 : BitVec 32) (v97 : BitVec 32) (c0_i32_64 : BitVec 32)  (Kt : _ → sProp 𝕄) :
    iprop(records m ρ K ∗ xPts m ρ c ∗ (∃ f, zsPts c 0 0 f) ∗ owesS c (tal ((dues c).drop 6)) ∗ XT c (zp (0 + 1) c) (xn 0 0 0) ∗ (∃ f, zrPts (zp (0 + 1) c) 0 0 f))
      ⊢ iprop((∀ r, (xPts m ρ c ∗ owesS c (tal ((dues c).drop 7)) ∗ CI c (xn 0 0 0) ∗ CI c (xn 0 0 0 + 6)) -∗ Kt r)
          -∗ wp frame (wpE (defs₀ (F := F)) 𝒱₀ (c : Thread nD τ) none) Set.univ
              (k0_part4 xM (Memref.isWhole_whole _) gM (Memref.isWhole_whole _) oM (Memref.isWhole_whole _) sM (Memref.isWhole_whole _) rM (Memref.isWhole_whole _) aM (Memref.isWhole_whole _) cc0_scratch3 cc0_scratch4 cc0_scratch5 cc0_scratch6 c v2 v5 v8 v10 v96 v97 c0_i32_64) Kt) := by
  rw [k0_part4_eq_skeleton]; unfold k0_part4_skel
  simp only [semSignalWord, semWaitWord, Prog.lift, Prog.bind_op, Prog.bind_ret, Prog.pure_eq_ret, wp_deviceId]
  iintro ⟨#HR, X, S00, HO, T00, D00⟩ Hk
  iapply (wp_ldx m ρ c) $$ X; iintro X
  iapply (wp_sts m ρ c 0 0 rfl _ (fun f => stage_eq m ρ c rfl (off1_00 c) f)) $$ S00; iintro S00
  iapply (wp_zsend m ρ K c _ 0 0 (by decide) (by decide) (dev7_eq c) rfl _ _ sem0_00 sem1_00 (T := tal ((dues c).drop 6)) (T' := tal ((dues c).drop 7)) rfl) $$ [HO T00 S00 D00]
  · isplitr; · iexact HR
    isplitl [HO]; · iexact HO
    isplitl [T00]; · iexact T00
    isplitl [S00]; · iexact S00
    iexact D00
  iintro ⟨HO, C00, E00⟩
  rw [wp_ret]; imodintro
  iapply Hk $$ %_ [X HO C00 E00]
  isplitl [X]; · iexact X
  isplitl [HO]; · iexact HO
  isplitl [C00]; · iexact C00
  iexact E00

/-- Stages and sends slot (0, 1). -/
theorem wp_part5 (c : Dev nD) (v2 : BitVec 32) (v5 : BitVec 32) (v8 : BitVec 32) (v10 : BitVec 32) (v124 : BitVec 32) (v125 : BitVec 32) (v126 : BitVec 1) (c0_i32_91 : BitVec 32)  (Kt : _ → sProp 𝕄) :
    iprop(records m ρ K ∗ xPts m ρ c ∗ (∃ f, zsPts c 0 1 f) ∗ owesS c (tal ((dues c).drop 7)) ∗ XT c (zp (1 + 1) c) (xn 0 0 1) ∗ (∃ f, zrPts (zp (1 + 1) c) 0 1 f))
      ⊢ iprop((∀ r, (xPts m ρ c ∗ owesS c (tal ((dues c).drop 8)) ∗ CI c (xn 0 0 1) ∗ CI c (xn 0 0 1 + 6)) -∗ Kt r)
          -∗ wp frame (wpE (defs₀ (F := F)) 𝒱₀ (c : Thread nD τ) none) Set.univ
              (k0_part5 xM (Memref.isWhole_whole _) gM (Memref.isWhole_whole _) oM (Memref.isWhole_whole _) sM (Memref.isWhole_whole _) rM (Memref.isWhole_whole _) aM (Memref.isWhole_whole _) cc0_scratch3 cc0_scratch4 cc0_scratch5 cc0_scratch6 c v2 v5 v8 v10 v124 v125 v126 c0_i32_91) Kt) := by
  rw [k0_part5_eq_skeleton]; unfold k0_part5_skel
  simp only [semSignalWord, semWaitWord, Prog.lift, Prog.bind_op, Prog.bind_ret, Prog.pure_eq_ret, wp_deviceId]
  iintro ⟨#HR, X, S01, HO, T01, D01⟩ Hk
  iapply (wp_ldx m ρ c) $$ X; iintro X
  iapply (wp_sts m ρ c 0 1 rfl _ (fun f => stage_eq m ρ c rfl (off1_01 c) f)) $$ S01; iintro S01
  iapply (wp_zsend m ρ K c _ 0 1 (by decide) (by decide) (dev8_eq c) rfl _ _ sem0_01 sem1_01 (T := tal ((dues c).drop 7)) (T' := tal ((dues c).drop 8)) rfl) $$ [HO T01 S01 D01]
  · isplitr; · iexact HR
    isplitl [HO]; · iexact HO
    isplitl [T01]; · iexact T01
    isplitl [S01]; · iexact S01
    iexact D01
  iintro ⟨HO, C01, E01⟩
  rw [wp_ret]; imodintro
  iapply Hk $$ %_ [X HO C01 E01]
  isplitl [X]; · iexact X
  isplitl [HO]; · iexact HO
  isplitl [C01]; · iexact C01
  iexact E01

/-- Stages slot (0, 2). -/
theorem wp_part6 (c : Dev nD) (v2 : BitVec 32) (v5 : BitVec 32) (v10 : BitVec 32) (v157 : BitVec 32) (c1_i32_117 : BitVec 32)  (Kt : _ → sProp 𝕄) :
    iprop(records m ρ K ∗ xPts m ρ c ∗ (∃ f, zsPts c 0 2 f))
      ⊢ iprop((∀ r, (xPts m ρ c ∗ zsPts c 0 2 (ZS m ρ c)) -∗ Kt r)
          -∗ wp frame (wpE (defs₀ (F := F)) 𝒱₀ (c : Thread nD τ) none) Set.univ
              (k0_part6 xM (Memref.isWhole_whole _) gM (Memref.isWhole_whole _) oM (Memref.isWhole_whole _) sM (Memref.isWhole_whole _) rM (Memref.isWhole_whole _) aM (Memref.isWhole_whole _) cc0_scratch3 cc0_scratch4 cc0_scratch5 cc0_scratch6 c v2 v5 v10 v157 c1_i32_117) Kt) := by
  rw [k0_part6_eq_skeleton]; unfold k0_part6_skel
  simp only [semSignalWord, semWaitWord, Prog.lift, Prog.bind_op, Prog.bind_ret, Prog.pure_eq_ret, wp_deviceId]
  iintro ⟨#HR, X, S02⟩ Hk
  iapply (wp_ldx m ρ c) $$ X; iintro X
  iapply (wp_sts m ρ c 0 2 rfl _ (fun f => stage_eq m ρ c rfl (off1_02 c) f)) $$ S02; iintro S02
  rw [wp_ret]; imodintro
  iapply Hk $$ %_ [X S02]
  isplitl [X]; · iexact X
  iexact S02

/-- Sends slot (0, 2), stages slot (1, 0). -/
theorem wp_part7 (c : Dev nD) (v2 : BitVec 32) (v5 : BitVec 32) (v8 : BitVec 32) (v10 : BitVec 32)  (Kt : _ → sProp 𝕄) :
    iprop(records m ρ K ∗ owesS c (tal ((dues c).drop 8)) ∗ XT c (zp (2 + 1) c) (xn 0 0 2) ∗ zsPts c 0 2 (ZS m ρ c) ∗ (∃ f, zrPts (zp (2 + 1) c) 0 2 f) ∗ xPts m ρ c ∗ (∃ f, zsPts c 1 0 f))
      ⊢ iprop((∀ r, (owesS c (tal ((dues c).drop 9)) ∗ CI c (xn 0 0 2) ∗ CI c (xn 0 0 2 + 6) ∗ xPts m ρ c ∗ zsPts c 1 0 (ZS m ρ c)) -∗ Kt r)
          -∗ wp frame (wpE (defs₀ (F := F)) 𝒱₀ (c : Thread nD τ) none) Set.univ
              (k0_part7 xM (Memref.isWhole_whole _) gM (Memref.isWhole_whole _) oM (Memref.isWhole_whole _) sM (Memref.isWhole_whole _) rM (Memref.isWhole_whole _) aM (Memref.isWhole_whole _) cc0_scratch3 cc0_scratch4 cc0_scratch5 cc0_scratch6 c v2 v5 v8 v10) Kt) := by
  rw [k0_part7_eq_skeleton]; unfold k0_part7_skel
  simp only [semSignalWord, semWaitWord, Prog.lift, Prog.bind_op, Prog.bind_ret, Prog.pure_eq_ret, wp_deviceId]
  iintro ⟨#HR, HO, T02, S02, D02, X, S10⟩ Hk
  iapply (wp_zsend m ρ K c _ 0 2 (by decide) (by decide) (dev9_eq c) rfl _ _ sem0_02 sem1_02 (T := tal ((dues c).drop 8)) (T' := tal ((dues c).drop 9)) rfl) $$ [HO T02 S02 D02]
  · isplitr; · iexact HR
    isplitl [HO]; · iexact HO
    isplitl [T02]; · iexact T02
    isplitl [S02]; · iexact S02
    iexact D02
  iintro ⟨HO, C02, E02⟩
  iapply (wp_ldx m ρ c) $$ X; iintro X
  iapply (wp_sts m ρ c 1 0 rfl _ (fun f => stage_eq m ρ c rfl (off1_10 c) f)) $$ S10; iintro S10
  rw [wp_ret]; imodintro
  iapply Hk $$ %_ [HO C02 E02 X S10]
  isplitl [HO]; · iexact HO
  isplitl [C02]; · iexact C02
  isplitl [E02]; · iexact E02
  isplitl [X]; · iexact X
  iexact S10

/-- Sends slot (1, 0), stages slot (1, 1). -/
theorem wp_part8 (c : Dev nD) (v8 : BitVec 32) (v10 : BitVec 32) (v204 : BitVec 32) (v216 : BitVec 32) (v217 : BitVec 32)  (Kt : _ → sProp 𝕄) :
    iprop(records m ρ K ∗ owesS c (tal ((dues c).drop 9)) ∗ XT c (zp (0 + 1) c) (xn 0 1 0) ∗ zsPts c 1 0 (ZS m ρ c) ∗ (∃ f, zrPts (zp (0 + 1) c) 1 0 f) ∗ xPts m ρ c ∗ (∃ f, zsPts c 1 1 f))
      ⊢ iprop((∀ r, (owesS c (tal ((dues c).drop 10)) ∗ CI c (xn 0 1 0) ∗ CI c (xn 0 1 0 + 6) ∗ xPts m ρ c ∗ zsPts c 1 1 (ZS m ρ c)) -∗ Kt r)
          -∗ wp frame (wpE (defs₀ (F := F)) 𝒱₀ (c : Thread nD τ) none) Set.univ
              (k0_part8 xM (Memref.isWhole_whole _) gM (Memref.isWhole_whole _) oM (Memref.isWhole_whole _) sM (Memref.isWhole_whole _) rM (Memref.isWhole_whole _) aM (Memref.isWhole_whole _) cc0_scratch3 cc0_scratch4 cc0_scratch5 cc0_scratch6 c v8 v10 v204 v216 v217) Kt) := by
  rw [k0_part8_eq_skeleton]; unfold k0_part8_skel
  simp only [semSignalWord, semWaitWord, Prog.lift, Prog.bind_op, Prog.bind_ret, Prog.pure_eq_ret, wp_deviceId]
  iintro ⟨#HR, HO, T10, S10, D10, X, S11⟩ Hk
  iapply (wp_zsend m ρ K c _ 1 0 (by decide) (by decide) (dev10_eq c) rfl _ _ sem0_10 sem1_10 (T := tal ((dues c).drop 9)) (T' := tal ((dues c).drop 10)) rfl) $$ [HO T10 S10 D10]
  · isplitr; · iexact HR
    isplitl [HO]; · iexact HO
    isplitl [T10]; · iexact T10
    isplitl [S10]; · iexact S10
    iexact D10
  iintro ⟨HO, C10, E10⟩
  iapply (wp_ldx m ρ c) $$ X; iintro X
  iapply (wp_sts m ρ c 1 1 rfl _ (fun f => stage_eq m ρ c rfl (off1_11 c) f)) $$ S11; iintro S11
  rw [wp_ret]; imodintro
  iapply Hk $$ %_ [HO C10 E10 X S11]
  isplitl [HO]; · iexact HO
  isplitl [C10]; · iexact C10
  isplitl [E10]; · iexact E10
  isplitl [X]; · iexact X
  iexact S11

/-- Sends slot (1, 1), loads the part of slot (1, 2). -/
theorem wp_part9 (c : Dev nD) (v2 : BitVec 32) (v5 : BitVec 32) (v8 : BitVec 32) (v10 : BitVec 32) (v240 : BitVec 32)  (Kt : _ → sProp 𝕄) :
    iprop(records m ρ K ∗ owesS c (tal ((dues c).drop 10)) ∗ XT c (zp (1 + 1) c) (xn 0 1 1) ∗ zsPts c 1 1 (ZS m ρ c) ∗ (∃ f, zrPts (zp (1 + 1) c) 1 1 f) ∗ xPts m ρ c)
      ⊢ iprop((∀ v, (owesS c (tal ((dues c).drop 11)) ∗ CI c (xn 0 1 1) ∗ CI c (xn 0 1 1 + 6) ∗ xPts m ρ c) -∗ Kt (⟨v, k0_pay7 (xM.view.readAt (Elt F) (Rect.unit (s := S1x2048x512) (k0_off1 c 2#32 256#32) S1x256x128.size (k0_off1_inb c 2 1)).toLoadRect (xstg m ρ c))⟩))
          -∗ wp frame (wpE (defs₀ (F := F)) 𝒱₀ (c : Thread nD τ) none) Set.univ
              (k0_part9 xM (Memref.isWhole_whole _) gM (Memref.isWhole_whole _) oM (Memref.isWhole_whole _) sM (Memref.isWhole_whole _) rM (Memref.isWhole_whole _) aM (Memref.isWhole_whole _) cc0_scratch3 cc0_scratch4 cc0_scratch5 cc0_scratch6 c v2 v5 v8 v10 v240) Kt) := by
  rw [k0_part9_eq_skeleton]; unfold k0_part9_skel
  simp only [semSignalWord, semWaitWord, Prog.lift, Prog.bind_op, Prog.bind_ret, Prog.pure_eq_ret, wp_deviceId]
  iintro ⟨#HR, HO, T11, S11, D11, X⟩ Hk
  iapply (wp_zsend m ρ K c _ 1 1 (by decide) (by decide) (dev11_eq c) rfl _ _ sem0_11 sem1_11 (T := tal ((dues c).drop 10)) (T' := tal ((dues c).drop 11)) rfl) $$ [HO T11 S11 D11]
  · isplitr; · iexact HR
    isplitl [HO]; · iexact HO
    isplitl [T11]; · iexact T11
    isplitl [S11]; · iexact S11
    iexact D11
  iintro ⟨HO, C11, E11⟩
  iapply (wp_ldx m ρ c) $$ X; iintro X
  rw [wp_ret]; imodintro
  iapply Hk $$ %_ [HO C11 E11 X]
  isplitl [HO]; · iexact HO
  isplitl [C11]; · iexact C11
  isplitl [E11]; · iexact E11
  iexact X

/-- Stages and sends slot (1, 2), waits for the first send. -/
theorem wp_part10 (c : Dev nD) (v2 : BitVec 32) (v5 : BitVec 32) (v276 : BitVec 32)  (Kt : _ → sProp 𝕄) :
    iprop(records m ρ K ∗ levAts L lv ∗ (∃ f, zsPts c 1 2 f) ∗ owesS c (tal ((dues c).drop 11)) ∗ XT c (zp (2 + 1) c) (xn 0 1 2) ∗ (∃ f, zrPts (zp (2 + 1) c) 1 2 f) ∗ CI c (xn 0 0 0))
      ⊢ iprop((∀ r, (CI c (xn 0 1 2) ∗ CI c (xn 0 1 2 + 6) ∗ owesS c (tal ((dues c).drop 12)) ∗ semVal (dcell c (xn 0 0 0)) 0 ∗ zsPts c 0 0 (ZS m ρ c)) -∗ Kt r)
          -∗ wp frame (wpE (defs₀ (F := F)) 𝒱₀ (c : Thread nD τ) none) Set.univ
              (k0_part10 xM (Memref.isWhole_whole _) gM (Memref.isWhole_whole _) oM (Memref.isWhole_whole _) sM (Memref.isWhole_whole _) rM (Memref.isWhole_whole _) aM (Memref.isWhole_whole _) cc0_scratch3 cc0_scratch4 cc0_scratch5 cc0_scratch6 c v2 v5 v276 (k0_pay7 (xM.view.readAt (Elt F) (Rect.unit (s := S1x2048x512) (k0_off1 c 2#32 256#32) S1x256x128.size (k0_off1_inb c 2 1)).toLoadRect (xstg m ρ c)))) Kt) := by
  rw [k0_part10_eq_skeleton]; unfold k0_part10_skel
  simp only [semSignalWord, semWaitWord, Prog.lift, Prog.bind_op, Prog.bind_ret, Prog.pure_eq_ret, wp_deviceId]
  iintro ⟨#HR, #Hlev, S12, HO, T12, D12, C00⟩ Hk
  iapply (wp_sts m ρ c 1 2 rfl _ (fun f => stage_eq m ρ c rfl (off1_12 c) f)) $$ S12; iintro S12
  iapply (wp_zsend m ρ K c _ 1 2 (by decide) (by decide) (dev12_eq c) rfl _ _ sem0_12 sem1_12 (T := tal ((dues c).drop 11)) (T' := tal ((dues c).drop 12)) rfl) $$ [HO T12 S12 D12]
  · isplitr; · iexact HR
    isplitl [HO]; · iexact HO
    isplitl [T12]; · iexact T12
    isplitl [S12]; · iexact S12
    iexact D12
  iintro ⟨HO, C12, E12⟩
  iapply (wp_zsw m ρ K c 0 0 (by decide) (by decide) _ sem0_00 (by exact rfl) ((dues c).drop 12) (lvl_12 c _ (by decide))) $$ [HO C00]
  · isplitr; · iexact HR
    isplitr; · iexact Hlev
    isplitl [HO]; · iexact HO
    iexact C00
  iintro ⟨HO, Z000, S00⟩
  rw [wp_ret]; imodintro
  iapply Hk $$ %_ [C12 E12 HO Z000 S00]
  isplitl [C12]; · iexact C12
  isplitl [E12]; · iexact E12
  isplitl [HO]; · iexact HO
  isplitl [Z000]; · iexact Z000
  iexact S00

end Cert.KernelIdealRun

end
-- ==== Proof.KernelIdealRun.PartsB.lean ====
/-
# The body's parts: the waits along `z`, the sums and the sends in the plane

Each theorem takes one printed part of the body, what it starts from and what it leaves.
-/
module

public import proofs.«01_k».proof.Proof.KernelIdealRun.Addr
public import proofs.«01_k».proof.Proof.KernelIdealRun.Waits
public import proofs.«01_k».proof.Proof.KernelIdealRun.Out

@[expose] public section

noncomputable section

namespace Cert.KernelIdealRun

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Fin 25 → ℕ)

/-- Waits for arrival (0, 0) and send (0, 1). -/
theorem wp_part11 (c : Dev nD) (v2 : BitVec 32) (v5 : BitVec 32) (v96 : BitVec 32)  (Kt : _ → sProp 𝕄) :
    iprop(records m ρ K ∗ levAts L lv ∗ owesS c (tal ((dues c).drop 12)) ∗ CI c (xn 0 0 0 + 6) ∗ CI c (xn 0 0 1))
      ⊢ iprop((∀ r, (semVal (dcell c (xn 0 0 0 + 6)) 0 ∗ zrPts c 0 0 (ZR m ρ c) ∗ owesS c (tal ((dues c).drop 12)) ∗ semVal (dcell c (xn 0 0 1)) 0 ∗ zsPts c 0 1 (ZS m ρ c)) -∗ Kt r)
          -∗ wp frame (wpE (defs₀ (F := F)) 𝒱₀ (c : Thread nD τ) none) Set.univ
              (k0_part11 xM (Memref.isWhole_whole _) gM (Memref.isWhole_whole _) oM (Memref.isWhole_whole _) sM (Memref.isWhole_whole _) rM (Memref.isWhole_whole _) aM (Memref.isWhole_whole _) cc0_scratch3 cc0_scratch4 cc0_scratch5 cc0_scratch6 v2 v5 v96) Kt) := by
  rw [k0_part11_eq_skeleton]; unfold k0_part11_skel
  simp only [semSignalWord, semWaitWord, Prog.lift, Prog.bind_op, Prog.bind_ret, Prog.pure_eq_ret, wp_deviceId]
  iintro ⟨#HR, #Hlev, HO, E00, C01⟩ Hk
  iapply (wp_zrw m ρ K c 0 0 (by decide) (by decide) _ sem1_00 (by exact rfl) ((dues c).drop 12) (lvl_12 c _ (by decide))) $$ [HO E00]
  · isplitr; · iexact HR
    isplitr; · iexact Hlev
    isplitl [HO]; · iexact HO
    iexact E00
  iintro ⟨HO, Z100, R00⟩
  iapply (wp_zsw m ρ K c 0 1 (by decide) (by decide) _ sem0_01 (by exact rfl) ((dues c).drop 12) (lvl_12 c _ (by decide))) $$ [HO C01]
  · isplitr; · iexact HR
    isplitr; · iexact Hlev
    isplitl [HO]; · iexact HO
    iexact C01
  iintro ⟨HO, Z001, S01⟩
  rw [wp_ret]; imodintro
  iapply Hk $$ %_ [Z100 R00 HO Z001 S01]
  isplitl [Z100]; · iexact Z100
  isplitl [R00]; · iexact R00
  isplitl [HO]; · iexact HO
  isplitl [Z001]; · iexact Z001
  iexact S01

/-- Waits for arrival (0, 1) and send (0, 2). -/
theorem wp_part12 (c : Dev nD) (v2 : BitVec 32) (v5 : BitVec 32) (v132 : BitVec 32) (v168 : BitVec 32) (v326 : BitVec 32) (v327 : BitVec 32)  (Kt : _ → sProp 𝕄) :
    iprop(records m ρ K ∗ levAts L lv ∗ owesS c (tal ((dues c).drop 12)) ∗ CI c (xn 0 0 1 + 6) ∗ CI c (xn 0 0 2))
      ⊢ iprop((∀ r, (semVal (dcell c (xn 0 0 1 + 6)) 0 ∗ zrPts c 0 1 (ZR m ρ c) ∗ owesS c (tal ((dues c).drop 12)) ∗ semVal (dcell c (xn 0 0 2)) 0 ∗ zsPts c 0 2 (ZS m ρ c)) -∗ Kt r)
          -∗ wp frame (wpE (defs₀ (F := F)) 𝒱₀ (c : Thread nD τ) none) Set.univ
              (k0_part12 xM (Memref.isWhole_whole _) gM (Memref.isWhole_whole _) oM (Memref.isWhole_whole _) sM (Memref.isWhole_whole _) rM (Memref.isWhole_whole _) aM (Memref.isWhole_whole _) cc0_scratch3 cc0_scratch4 cc0_scratch5 cc0_scratch6 v2 v5 v132 v168 v326 v327) Kt) := by
  rw [k0_part12_eq_skeleton]; unfold k0_part12_skel
  simp only [semSignalWord, semWaitWord, Prog.lift, Prog.bind_op, Prog.bind_ret, Prog.pure_eq_ret, wp_deviceId]
  iintro ⟨#HR, #Hlev, HO, E01, C02⟩ Hk
  iapply (wp_zrw m ρ K c 0 1 (by decide) (by decide) _ sem1_01 (by exact rfl) ((dues c).drop 12) (lvl_12 c _ (by decide))) $$ [HO E01]
  · isplitr; · iexact HR
    isplitr; · iexact Hlev
    isplitl [HO]; · iexact HO
    iexact E01
  iintro ⟨HO, Z101, R01⟩
  iapply (wp_zsw m ρ K c 0 2 (by decide) (by decide) _ sem0_02 (by exact rfl) ((dues c).drop 12) (lvl_12 c _ (by decide))) $$ [HO C02]
  · isplitr; · iexact HR
    isplitr; · iexact Hlev
    isplitl [HO]; · iexact HO
    iexact C02
  iintro ⟨HO, Z002, S02⟩
  rw [wp_ret]; imodintro
  iapply Hk $$ %_ [Z101 R01 HO Z002 S02]
  isplitl [Z101]; · iexact Z101
  isplitl [R01]; · iexact R01
  isplitl [HO]; · iexact HO
  isplitl [Z002]; · iexact Z002
  iexact S02

/-- Waits for arrival (0, 2), then sums segment 0 of its quarter. -/
theorem wp_part13 (c : Dev nD) (v5 : BitVec 32) (v8 : BitVec 32) (v10 : BitVec 32) (v63 : BitVec 32)  (Kt : _ → sProp 𝕄) :
    iprop(records m ρ K ∗ levAts L lv ∗ owesS c (tal ((dues c).drop 12)) ∗ CI c (xn 0 0 2 + 6) ∗ xPts m ρ c ∗ zrPts c 0 0 (ZR m ρ c) ∗ zrPts c 0 1 (ZR m ρ c) ∗ (∃ f, qPts c (c.val / 4) 0 fullShare f))
      ⊢ iprop((∀ r, (owesS c (tal ((dues c).drop 12)) ∗ semVal (dcell c (xn 0 0 2 + 6)) 0 ∗ xPts m ρ c ∗ zrPts c 0 0 (ZR m ρ c) ∗ zrPts c 0 1 (ZR m ρ c) ∗ zrPts c 0 2 (ZR m ρ c) ∗ qPts c (c.val / 4) 0 (qsh 0) (QA m ρ c) ∗ qPts c (c.val / 4) 0 (qsh 1) (QA m ρ c) ∗ qPts c (c.val / 4) 0 (qsh 2) (QA m ρ c)) -∗ Kt r)
          -∗ wp frame (wpE (defs₀ (F := F)) 𝒱₀ (c : Thread nD τ) none) Set.univ
              (k0_part13 xM (Memref.isWhole_whole _) gM (Memref.isWhole_whole _) oM (Memref.isWhole_whole _) sM (Memref.isWhole_whole _) rM (Memref.isWhole_whole _) aM (Memref.isWhole_whole _) cc0_scratch3 cc0_scratch4 cc0_scratch5 cc0_scratch6 c v5 v8 v10 v63) Kt) := by
  rw [k0_part13_eq_skeleton]; unfold k0_part13_skel
  simp only [semSignalWord, semWaitWord, Prog.lift, Prog.bind_op, Prog.bind_ret, Prog.pure_eq_ret, wp_deviceId]
  iintro ⟨#HR, #Hlev, HO, E02, X, R00, R01, A0⟩ Hk
  iapply (wp_zrw m ρ K c 0 2 (by decide) (by decide) _ sem1_02 (by exact rfl) ((dues c).drop 12) (lvl_12 c _ (by decide))) $$ [HO E02]
  · isplitr; · iexact HR
    isplitr; · iexact Hlev
    isplitl [HO]; · iexact HO
    iexact E02
  iintro ⟨HO, Z102, R02⟩
  iapply (wp_ldx m ρ c) $$ X; iintro X
  iapply (wp_ldr m ρ c 0 0 rfl) $$ R00; iintro R00
  iapply (wp_ldr m ρ c 0 1 rfl) $$ R01; iintro R01
  iapply (wp_ldr m ρ c 0 2 rfl) $$ R02; iintro R02
  iapply (wp_sta m ρ c 0 (off3_0 c) _ (fun f => acc_eq m ρ c (by decide) (off3_0 c) (off2_0 c) rfl rfl rfl f)) $$ A0; iintro ⟨A00, A01, A02⟩
  rw [wp_ret]; imodintro
  iapply Hk $$ %_ [HO Z102 X R00 R01 R02 A00 A01 A02]
  isplitl [HO]; · iexact HO
  isplitl [Z102]; · iexact Z102
  isplitl [X]; · iexact X
  isplitl [R00]; · iexact R00
  isplitl [R01]; · iexact R01
  isplitl [R02]; · iexact R02
  isplitl [A00]; · iexact A00
  isplitl [A01]; · iexact A01
  iexact A02

/-- Sends segment 0 to the first two peers in the plane. -/
theorem wp_part14 (c : Dev nD) (v2 : BitVec 32) (v8 : BitVec 32) (v64 : BitVec 32) (v65 : BitVec 32) (v66 : BitVec 32)  (Kt : _ → sProp 𝕄) :
    iprop(records m ρ K ∗ owesS c (tal ((dues c).drop 12)) ∗ XT c (xyp 0 c) (xn 2 0 0) ∗ qPts c (c.val / 4) 0 (qsh 0) (QA m ρ c) ∗ (∃ f, qPts (xyp 0 c) (c.val / 4) 0 fullShare f) ∗ XT c (xyp 1 c) (xn 2 0 1) ∗ qPts c (c.val / 4) 0 (qsh 1) (QA m ρ c) ∗ (∃ f, qPts (xyp 1 c) (c.val / 4) 0 fullShare f))
      ⊢ iprop((∀ r, (CI c (xn 2 0 0) ∗ CI c (xn 2 0 0 + 6) ∗ owesS c (tal ((dues c).drop 14)) ∗ CI c (xn 2 0 1) ∗ CI c (xn 2 0 1 + 6)) -∗ Kt r)
          -∗ wp frame (wpE (defs₀ (F := F)) 𝒱₀ (c : Thread nD τ) none) Set.univ
              (k0_part14 xM (Memref.isWhole_whole _) gM (Memref.isWhole_whole _) oM (Memref.isWhole_whole _) sM (Memref.isWhole_whole _) rM (Memref.isWhole_whole _) aM (Memref.isWhole_whole _) cc0_scratch3 cc0_scratch4 cc0_scratch5 cc0_scratch6 c v2 v8 v64 v65 v66) Kt) := by
  rw [k0_part14_eq_skeleton]; unfold k0_part14_skel
  simp only [semSignalWord, semWaitWord, Prog.lift, Prog.bind_op, Prog.bind_ret, Prog.pure_eq_ret, wp_deviceId]
  iintro ⟨#HR, HO, U00, A00, F00, U01, A01, F01⟩ Hk
  iapply (wp_qsend m ρ K c _ 0 0 (by decide) (by decide) (dev13_eq c) (off4_0 c) _ _ sem2_00 sem3_00 (T := tal ((dues c).drop 12)) (T' := tal ((dues c).drop 13)) rfl) $$ [HO U00 A00 F00]
  · isplitr; · iexact HR
    isplitl [HO]; · iexact HO
    isplitl [U00]; · iexact U00
    isplitl [A00]; · iexact A00
    iexact F00
  iintro ⟨HO, G00, H00⟩
  iapply (wp_qsend m ρ K c _ 0 1 (by decide) (by decide) (dev14_eq c) (off4_0 c) _ _ sem2_01 sem3_01 (T := tal ((dues c).drop 13)) (T' := tal ((dues c).drop 14)) rfl) $$ [HO U01 A01 F01]
  · isplitr; · iexact HR
    isplitl [HO]; · iexact HO
    isplitl [U01]; · iexact U01
    isplitl [A01]; · iexact A01
    iexact F01
  iintro ⟨HO, G01, H01⟩
  rw [wp_ret]; imodintro
  iapply Hk $$ %_ [G00 H00 HO G01 H01]
  isplitl [G00]; · iexact G00
  isplitl [H00]; · iexact H00
  isplitl [HO]; · iexact HO
  isplitl [G01]; · iexact G01
  iexact H01

/-- Sends segment 0 to the third peer, waits for send and arrival (1, 0). -/
theorem wp_part15 (c : Dev nD) (v2 : BitVec 32) (v5 : BitVec 32) (v204 : BitVec 32)  (Kt : _ → sProp 𝕄) :
    iprop(records m ρ K ∗ levAts L lv ∗ owesS c (tal ((dues c).drop 14)) ∗ XT c (xyp 2 c) (xn 2 0 2) ∗ qPts c (c.val / 4) 0 (qsh 2) (QA m ρ c) ∗ (∃ f, qPts (xyp 2 c) (c.val / 4) 0 fullShare f) ∗ CI c (xn 0 1 0) ∗ CI c (xn 0 1 0 + 6))
      ⊢ iprop((∀ r, (CI c (xn 2 0 2) ∗ CI c (xn 2 0 2 + 6) ∗ semVal (dcell c (xn 0 1 0)) 0 ∗ zsPts c 1 0 (ZS m ρ c) ∗ owesS c (tal ((dues c).drop 15)) ∗ semVal (dcell c (xn 0 1 0 + 6)) 0 ∗ zrPts c 1 0 (ZR m ρ c)) -∗ Kt r)
          -∗ wp frame (wpE (defs₀ (F := F)) 𝒱₀ (c : Thread nD τ) none) Set.univ
              (k0_part15 xM (Memref.isWhole_whole _) gM (Memref.isWhole_whole _) oM (Memref.isWhole_whole _) sM (Memref.isWhole_whole _) rM (Memref.isWhole_whole _) aM (Memref.isWhole_whole _) cc0_scratch3 cc0_scratch4 cc0_scratch5 cc0_scratch6 c v2 v5 v204) Kt) := by
  rw [k0_part15_eq_skeleton]; unfold k0_part15_skel
  simp only [semSignalWord, semWaitWord, Prog.lift, Prog.bind_op, Prog.bind_ret, Prog.pure_eq_ret, wp_deviceId]
  iintro ⟨#HR, #Hlev, HO, U02, A02, F02, C10, E10⟩ Hk
  iapply (wp_qsend m ρ K c _ 0 2 (by decide) (by decide) (dev15_eq c) (off4_0 c) _ _ sem2_02 sem3_02 (T := tal ((dues c).drop 14)) (T' := tal ((dues c).drop 15)) rfl) $$ [HO U02 A02 F02]
  · isplitr; · iexact HR
    isplitl [HO]; · iexact HO
    isplitl [U02]; · iexact U02
    isplitl [A02]; · iexact A02
    iexact F02
  iintro ⟨HO, G02, H02⟩
  iapply (wp_zsw m ρ K c 1 0 (by decide) (by decide) _ sem0_10 (by exact rfl) ((dues c).drop 15) (lvl_15 c _ (by decide))) $$ [HO C10]
  · isplitr; · iexact HR
    isplitr; · iexact Hlev
    isplitl [HO]; · iexact HO
    iexact C10
  iintro ⟨HO, Z010, S10⟩
  iapply (wp_zrw m ρ K c 1 0 (by decide) (by decide) _ sem1_10 (by exact rfl) ((dues c).drop 15) (lvl_15 c _ (by decide))) $$ [HO E10]
  · isplitr; · iexact HR
    isplitr; · iexact Hlev
    isplitl [HO]; · iexact HO
    iexact E10
  iintro ⟨HO, Z110, R10⟩
  rw [wp_ret]; imodintro
  iapply Hk $$ %_ [G02 H02 Z010 S10 HO Z110 R10]
  isplitl [G02]; · iexact G02
  isplitl [H02]; · iexact H02
  isplitl [Z010]; · iexact Z010
  isplitl [S10]; · iexact S10
  isplitl [HO]; · iexact HO
  isplitl [Z110]; · iexact Z110
  iexact R10

/-- Waits for send and arrival (1, 1). -/
theorem wp_part16 (c : Dev nD) (v2 : BitVec 32) (v5 : BitVec 32) (v240 : BitVec 32)  (Kt : _ → sProp 𝕄) :
    iprop(records m ρ K ∗ levAts L lv ∗ owesS c (tal ((dues c).drop 15)) ∗ CI c (xn 0 1 1) ∗ CI c (xn 0 1 1 + 6))
      ⊢ iprop((∀ r, (semVal (dcell c (xn 0 1 1)) 0 ∗ zsPts c 1 1 (ZS m ρ c) ∗ owesS c (tal ((dues c).drop 15)) ∗ semVal (dcell c (xn 0 1 1 + 6)) 0 ∗ zrPts c 1 1 (ZR m ρ c)) -∗ Kt r)
          -∗ wp frame (wpE (defs₀ (F := F)) 𝒱₀ (c : Thread nD τ) none) Set.univ
              (k0_part16 xM (Memref.isWhole_whole _) gM (Memref.isWhole_whole _) oM (Memref.isWhole_whole _) sM (Memref.isWhole_whole _) rM (Memref.isWhole_whole _) aM (Memref.isWhole_whole _) cc0_scratch3 cc0_scratch4 cc0_scratch5 cc0_scratch6 v2 v5 v240) Kt) := by
  rw [k0_part16_eq_skeleton]; unfold k0_part16_skel
  simp only [semSignalWord, semWaitWord, Prog.lift, Prog.bind_op, Prog.bind_ret, Prog.pure_eq_ret, wp_deviceId]
  iintro ⟨#HR, #Hlev, HO, C11, E11⟩ Hk
  iapply (wp_zsw m ρ K c 1 1 (by decide) (by decide) _ sem0_11 (by exact rfl) ((dues c).drop 15) (lvl_15 c _ (by decide))) $$ [HO C11]
  · isplitr; · iexact HR
    isplitr; · iexact Hlev
    isplitl [HO]; · iexact HO
    iexact C11
  iintro ⟨HO, Z011, S11⟩
  iapply (wp_zrw m ρ K c 1 1 (by decide) (by decide) _ sem1_11 (by exact rfl) ((dues c).drop 15) (lvl_15 c _ (by decide))) $$ [HO E11]
  · isplitr; · iexact HR
    isplitr; · iexact Hlev
    isplitl [HO]; · iexact HO
    iexact E11
  iintro ⟨HO, Z111, R11⟩
  rw [wp_ret]; imodintro
  iapply Hk $$ %_ [Z011 S11 HO Z111 R11]
  isplitl [Z011]; · iexact Z011
  isplitl [S11]; · iexact S11
  isplitl [HO]; · iexact HO
  isplitl [Z111]; · iexact Z111
  iexact R11

/-- Waits for send and arrival (1, 2), then begins the sum of segment 1. -/
theorem wp_part17 (c : Dev nD) (v2 : BitVec 32) (v5 : BitVec 32) (v8 : BitVec 32) (v10 : BitVec 32) (v276 : BitVec 32)  (Kt : _ → sProp 𝕄) :
    iprop(records m ρ K ∗ levAts L lv ∗ owesS c (tal ((dues c).drop 15)) ∗ CI c (xn 0 1 2) ∗ CI c (xn 0 1 2 + 6) ∗ xPts m ρ c ∗ zrPts c 1 0 (ZR m ρ c) ∗ zrPts c 1 1 (ZR m ρ c))
      ⊢ iprop(((semVal (dcell c (xn 0 1 2)) 0 ∗ zsPts c 1 2 (ZS m ρ c) ∗ owesS c (tal ((dues c).drop 15)) ∗ semVal (dcell c (xn 0 1 2 + 6)) 0 ∗ zrPts c 1 2 (ZR m ρ c) ∗ xPts m ρ c ∗ zrPts c 1 0 (ZR m ρ c) ∗ zrPts c 1 1 (ZR m ρ c)) -∗ Kt (k0_pay10 (xM.view.readAt (Elt F) (Rect.unit (s := S1x2048x512) (k0_off2 c 256#32) S1x256x128.size (k0_off2_inb c 1)).toLoadRect (xstg m ρ c)) (rM.view.readAt (Elt F) (zrect ![1, 0, 0, 0] inb_S2x3x256x128_S1x1x256x128_1_0_0_0).toLoadRect (ZR m ρ c)) (rM.view.readAt (Elt F) (zrect ![1, 1, 0, 0] inb_S2x3x256x128_S1x1x256x128_1_1_0_0).toLoadRect (ZR m ρ c))))
          -∗ wp frame (wpE (defs₀ (F := F)) 𝒱₀ (c : Thread nD τ) none) Set.univ
              (k0_part17 xM (Memref.isWhole_whole _) gM (Memref.isWhole_whole _) oM (Memref.isWhole_whole _) sM (Memref.isWhole_whole _) rM (Memref.isWhole_whole _) aM (Memref.isWhole_whole _) cc0_scratch3 cc0_scratch4 cc0_scratch5 cc0_scratch6 c v2 v5 v8 v10 v276) Kt) := by
  rw [k0_part17_eq_skeleton]; unfold k0_part17_skel
  simp only [semSignalWord, semWaitWord, Prog.lift, Prog.bind_op, Prog.bind_ret, Prog.pure_eq_ret, wp_deviceId]
  iintro ⟨#HR, #Hlev, HO, C12, E12, X, R10, R11⟩ Hk
  iapply (wp_zsw m ρ K c 1 2 (by decide) (by decide) _ sem0_12 (by exact rfl) ((dues c).drop 15) (lvl_15 c _ (by decide))) $$ [HO C12]
  · isplitr; · iexact HR
    isplitr; · iexact Hlev
    isplitl [HO]; · iexact HO
    iexact C12
  iintro ⟨HO, Z012, S12⟩
  iapply (wp_zrw m ρ K c 1 2 (by decide) (by decide) _ sem1_12 (by exact rfl) ((dues c).drop 15) (lvl_15 c _ (by decide))) $$ [HO E12]
  · isplitr; · iexact HR
    isplitr; · iexact Hlev
    isplitl [HO]; · iexact HO
    iexact E12
  iintro ⟨HO, Z112, R12⟩
  iapply (wp_ldx m ρ c) $$ X; iintro X
  iapply (wp_ldr m ρ c 1 0 rfl) $$ R10; iintro R10
  iapply (wp_ldr m ρ c 1 1 rfl) $$ R11; iintro R11
  rw [wp_ret]; imodintro
  iapply Hk $$ [Z012 S12 HO Z112 R12 X R10 R11]
  isplitl [Z012]; · iexact Z012
  isplitl [S12]; · iexact S12
  isplitl [HO]; · iexact HO
  isplitl [Z112]; · iexact Z112
  isplitl [R12]; · iexact R12
  isplitl [X]; · iexact X
  isplitl [R10]; · iexact R10
  iexact R11

/-- Ends the sum of segment 1 and sends it to the first peer in the plane. -/
theorem wp_part18 (c : Dev nD) (v2 : BitVec 32) (v5 : BitVec 32) (v8 : BitVec 32) (v10 : BitVec 32) (v63 : BitVec 32) (v64 : BitVec 32)  (Kt : _ → sProp 𝕄) :
    iprop(records m ρ K ∗ zrPts c 1 2 (ZR m ρ c) ∗ (∃ f, qPts c (c.val / 4) 1 fullShare f) ∗ owesS c (tal ((dues c).drop 15)) ∗ XT c (xyp 0 c) (xn 2 1 0) ∗ (∃ f, qPts (xyp 0 c) (c.val / 4) 1 fullShare f))
      ⊢ iprop((∀ r, (zrPts c 1 2 (ZR m ρ c) ∗ qPts c (c.val / 4) 1 (qsh 1) (QA m ρ c) ∗ qPts c (c.val / 4) 1 (qsh 2) (QA m ρ c) ∗ owesS c (tal ((dues c).drop 16)) ∗ CI c (xn 2 1 0) ∗ CI c (xn 2 1 0 + 6)) -∗ Kt r)
          -∗ wp frame (wpE (defs₀ (F := F)) 𝒱₀ (c : Thread nD τ) none) Set.univ
              (k0_part18 xM (Memref.isWhole_whole _) gM (Memref.isWhole_whole _) oM (Memref.isWhole_whole _) sM (Memref.isWhole_whole _) rM (Memref.isWhole_whole _) aM (Memref.isWhole_whole _) cc0_scratch3 cc0_scratch4 cc0_scratch5 cc0_scratch6 c v2 v5 v8 v10 v63 v64 (k0_pay10 (xM.view.readAt (Elt F) (Rect.unit (s := S1x2048x512) (k0_off2 c 256#32) S1x256x128.size (k0_off2_inb c 1)).toLoadRect (xstg m ρ c)) (rM.view.readAt (Elt F) (zrect ![1, 0, 0, 0] inb_S2x3x256x128_S1x1x256x128_1_0_0_0).toLoadRect (ZR m ρ c)) (rM.view.readAt (Elt F) (zrect ![1, 1, 0, 0] inb_S2x3x256x128_S1x1x256x128_1_1_0_0).toLoadRect (ZR m ρ c)))) Kt) := by
  rw [k0_part18_eq_skeleton]; unfold k0_part18_skel
  simp only [semSignalWord, semWaitWord, Prog.lift, Prog.bind_op, Prog.bind_ret, Prog.pure_eq_ret, wp_deviceId]
  iintro ⟨#HR, R12, A1, HO, U10, F10⟩ Hk
  iapply (wp_ldr m ρ c 1 2 rfl) $$ R12; iintro R12
  iapply (wp_sta m ρ c 1 (off5_1 c) _ (fun f => acc_eq m ρ c (by decide) (off5_1 c) (off2_1 c) rfl rfl rfl f)) $$ A1; iintro ⟨A10, A11, A12⟩
  iapply (wp_qsend m ρ K c _ 1 0 (by decide) (by decide) (dev16_eq c) (off6_1 c) _ _ sem2_10 sem3_10 (T := tal ((dues c).drop 15)) (T' := tal ((dues c).drop 16)) rfl) $$ [HO U10 A10 F10]
  · isplitr; · iexact HR
    isplitl [HO]; · iexact HO
    isplitl [U10]; · iexact U10
    isplitl [A10]; · iexact A10
    iexact F10
  iintro ⟨HO, G10, H10⟩
  rw [wp_ret]; imodintro
  iapply Hk $$ %_ [R12 A11 A12 HO G10 H10]
  isplitl [R12]; · iexact R12
  isplitl [A11]; · iexact A11
  isplitl [A12]; · iexact A12
  isplitl [HO]; · iexact HO
  isplitl [G10]; · iexact G10
  iexact H10

end Cert.KernelIdealRun

end
-- ==== Proof.KernelIdealRun.PartsC.lean ====
/-
# The body's parts: the waits in the plane and the last phase

Each theorem takes one printed part of the body, what it starts from and what it leaves.
-/
module

public import proofs.«01_k».proof.Proof.KernelIdealRun.Addr
public import proofs.«01_k».proof.Proof.KernelIdealRun.Waits
public import proofs.«01_k».proof.Proof.KernelIdealRun.Out

@[expose] public section

noncomputable section

namespace Cert.KernelIdealRun

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Fin 25 → ℕ)

/-- Sends segment 1 to the other two peers, waits for the first send of segment 0. -/
theorem wp_part19 (c : Dev nD) (v5 : BitVec 32) (v8 : BitVec 32) (v63 : BitVec 32) (v65 : BitVec 32) (v66 : BitVec 32)  (Kt : _ → sProp 𝕄) :
    iprop(records m ρ K ∗ levAts L lv ∗ owesS c (tal ((dues c).drop 16)) ∗ XT c (xyp 1 c) (xn 2 1 1) ∗ qPts c (c.val / 4) 1 (qsh 1) (QA m ρ c) ∗ (∃ f, qPts (xyp 1 c) (c.val / 4) 1 fullShare f) ∗ XT c (xyp 2 c) (xn 2 1 2) ∗ qPts c (c.val / 4) 1 (qsh 2) (QA m ρ c) ∗ (∃ f, qPts (xyp 2 c) (c.val / 4) 1 fullShare f) ∗ CI c (xn 2 0 0))
      ⊢ iprop((∀ r, (CI c (xn 2 1 1) ∗ CI c (xn 2 1 1 + 6) ∗ CI c (xn 2 1 2) ∗ CI c (xn 2 1 2 + 6) ∗ owesS c (tal ((dues c).drop 18)) ∗ semVal (dcell c (xn 2 0 0)) 0 ∗ qPts c (c.val / 4) 0 (qsh 0) (QA m ρ c)) -∗ Kt r)
          -∗ wp frame (wpE (defs₀ (F := F)) 𝒱₀ (c : Thread nD τ) none) Set.univ
              (k0_part19 xM (Memref.isWhole_whole _) gM (Memref.isWhole_whole _) oM (Memref.isWhole_whole _) sM (Memref.isWhole_whole _) rM (Memref.isWhole_whole _) aM (Memref.isWhole_whole _) cc0_scratch3 cc0_scratch4 cc0_scratch5 cc0_scratch6 c v5 v8 v63 v65 v66) Kt) := by
  rw [k0_part19_eq_skeleton]; unfold k0_part19_skel
  simp only [semSignalWord, semWaitWord, Prog.lift, Prog.bind_op, Prog.bind_ret, Prog.pure_eq_ret, wp_deviceId]
  iintro ⟨#HR, #Hlev, HO, U11, A11, F11, U12, A12, F12, G00⟩ Hk
  iapply (wp_qsend m ρ K c _ 1 1 (by decide) (by decide) (dev17_eq c) (off6_1 c) _ _ sem2_11 sem3_11 (T := tal ((dues c).drop 16)) (T' := tal ((dues c).drop 17)) rfl) $$ [HO U11 A11 F11]
  · isplitr; · iexact HR
    isplitl [HO]; · iexact HO
    isplitl [U11]; · iexact U11
    isplitl [A11]; · iexact A11
    iexact F11
  iintro ⟨HO, G11, H11⟩
  iapply (wp_qsend m ρ K c _ 1 2 (by decide) (by decide) (dev18_eq c) (off6_1 c) _ _ sem2_12 sem3_12 (T := tal ((dues c).drop 17)) (T' := tal ((dues c).drop 18)) rfl) $$ [HO U12 A12 F12]
  · isplitr; · iexact HR
    isplitl [HO]; · iexact HO
    isplitl [U12]; · iexact U12
    isplitl [A12]; · iexact A12
    iexact F12
  iintro ⟨HO, G12, H12⟩
  iapply (wp_qsw m ρ K c 0 0 (by decide) (by decide) _ sem2_00 (by exact rfl) ((dues c).drop 18) (lvl_18 c _)) $$ [HO G00]
  · isplitr; · iexact HR
    isplitr; · iexact Hlev
    isplitl [HO]; · iexact HO
    iexact G00
  iintro ⟨HO, Z200, A00⟩
  rw [wp_ret]; imodintro
  iapply Hk $$ %_ [G11 H11 G12 H12 HO Z200 A00]
  isplitl [G11]; · iexact G11
  isplitl [H11]; · iexact H11
  isplitl [G12]; · iexact G12
  isplitl [H12]; · iexact H12
  isplitl [HO]; · iexact HO
  isplitl [Z200]; · iexact Z200
  iexact A00

/-- Waits in the plane. -/
theorem wp_part20 (c : Dev nD) (v2 : BitVec 32) (v8 : BitVec 32) (v64 : BitVec 32) (v542 : BitVec 32) (v543 : BitVec 32)  (Kt : _ → sProp 𝕄) :
    iprop(records m ρ K ∗ levAts L lv ∗ owesS c (tal ((dues c).drop 18)) ∗ CI c (xn 2 0 0 + 6) ∗ CI c (xn 2 0 1) ∗ CI c (xn 2 0 1 + 6))
      ⊢ iprop((∀ r, (semVal (dcell c (xn 2 0 0 + 6)) 0 ∗ qPts c (qx 0 (c.val / 4)) 0 fullShare (QA m ρ c) ∗ semVal (dcell c (xn 2 0 1)) 0 ∗ qPts c (c.val / 4) 0 (qsh 1) (QA m ρ c) ∗ owesS c (tal ((dues c).drop 18)) ∗ semVal (dcell c (xn 2 0 1 + 6)) 0 ∗ qPts c (qx 1 (c.val / 4)) 0 fullShare (QA m ρ c)) -∗ Kt r)
          -∗ wp frame (wpE (defs₀ (F := F)) 𝒱₀ (c : Thread nD τ) none) Set.univ
              (k0_part20 xM (Memref.isWhole_whole _) gM (Memref.isWhole_whole _) oM (Memref.isWhole_whole _) sM (Memref.isWhole_whole _) rM (Memref.isWhole_whole _) aM (Memref.isWhole_whole _) cc0_scratch3 cc0_scratch4 cc0_scratch5 cc0_scratch6 c v2 v8 v64 v542 v543) Kt) := by
  rw [k0_part20_eq_skeleton]; unfold k0_part20_skel
  simp only [semSignalWord, semWaitWord, Prog.lift, Prog.bind_op, Prog.bind_ret, Prog.pure_eq_ret, wp_deviceId]
  iintro ⟨#HR, #Hlev, HO, H00, G01, H01⟩ Hk
  iapply (wp_qrw m ρ K c 0 0 (by decide) (by decide) _ sem3_00 (by exact rfl) ((dues c).drop 18) (lvl_18 c _)) $$ [HO H00]
  · isplitr; · iexact HR
    isplitr; · iexact Hlev
    isplitl [HO]; · iexact HO
    iexact H00
  iintro ⟨HO, Z300, Q00⟩
  iapply (wp_qsw m ρ K c 0 1 (by decide) (by decide) _ sem2_01 (by exact rfl) ((dues c).drop 18) (lvl_18 c _)) $$ [HO G01]
  · isplitr; · iexact HR
    isplitr; · iexact Hlev
    isplitl [HO]; · iexact HO
    iexact G01
  iintro ⟨HO, Z201, A01⟩
  iapply (wp_qrw m ρ K c 0 1 (by decide) (by decide) _ sem3_01 (by exact rfl) ((dues c).drop 18) (lvl_18 c _)) $$ [HO H01]
  · isplitr; · iexact HR
    isplitr; · iexact Hlev
    isplitl [HO]; · iexact HO
    iexact H01
  iintro ⟨HO, Z301, Q01⟩
  rw [wp_ret]; imodintro
  iapply Hk $$ %_ [Z300 Q00 Z201 A01 HO Z301 Q01]
  isplitl [Z300]; · iexact Z300
  isplitl [Q00]; · iexact Q00
  isplitl [Z201]; · iexact Z201
  isplitl [A01]; · iexact A01
  isplitl [HO]; · iexact HO
  isplitl [Z301]; · iexact Z301
  iexact Q01

/-- Waits in the plane. -/
theorem wp_part21 (c : Dev nD) (v5 : BitVec 32) (v8 : BitVec 32) (v63 : BitVec 32) (v65 : BitVec 32) (v66 : BitVec 32)  (Kt : _ → sProp 𝕄) :
    iprop(records m ρ K ∗ levAts L lv ∗ owesS c (tal ((dues c).drop 18)) ∗ CI c (xn 2 0 2) ∗ CI c (xn 2 0 2 + 6) ∗ CI c (xn 2 1 0))
      ⊢ iprop((∀ r, (semVal (dcell c (xn 2 0 2)) 0 ∗ qPts c (c.val / 4) 0 (qsh 2) (QA m ρ c) ∗ semVal (dcell c (xn 2 0 2 + 6)) 0 ∗ qPts c (qx 2 (c.val / 4)) 0 fullShare (QA m ρ c) ∗ owesS c (tal ((dues c).drop 18)) ∗ semVal (dcell c (xn 2 1 0)) 0 ∗ qPts c (c.val / 4) 1 (qsh 0) (QA m ρ c)) -∗ Kt r)
          -∗ wp frame (wpE (defs₀ (F := F)) 𝒱₀ (c : Thread nD τ) none) Set.univ
              (k0_part21 xM (Memref.isWhole_whole _) gM (Memref.isWhole_whole _) oM (Memref.isWhole_whole _) sM (Memref.isWhole_whole _) rM (Memref.isWhole_whole _) aM (Memref.isWhole_whole _) cc0_scratch3 cc0_scratch4 cc0_scratch5 cc0_scratch6 c v5 v8 v63 v65 v66) Kt) := by
  rw [k0_part21_eq_skeleton]; unfold k0_part21_skel
  simp only [semSignalWord, semWaitWord, Prog.lift, Prog.bind_op, Prog.bind_ret, Prog.pure_eq_ret, wp_deviceId]
  iintro ⟨#HR, #Hlev, HO, G02, H02, G10⟩ Hk
  iapply (wp_qsw m ρ K c 0 2 (by decide) (by decide) _ sem2_02 (by exact rfl) ((dues c).drop 18) (lvl_18 c _)) $$ [HO G02]
  · isplitr; · iexact HR
    isplitr; · iexact Hlev
    isplitl [HO]; · iexact HO
    iexact G02
  iintro ⟨HO, Z202, A02⟩
  iapply (wp_qrw m ρ K c 0 2 (by decide) (by decide) _ sem3_02 (by exact rfl) ((dues c).drop 18) (lvl_18 c _)) $$ [HO H02]
  · isplitr; · iexact HR
    isplitr; · iexact Hlev
    isplitl [HO]; · iexact HO
    iexact H02
  iintro ⟨HO, Z302, Q02⟩
  iapply (wp_qsw m ρ K c 1 0 (by decide) (by decide) _ sem2_10 (by exact rfl) ((dues c).drop 18) (lvl_18 c _)) $$ [HO G10]
  · isplitr; · iexact HR
    isplitr; · iexact Hlev
    isplitl [HO]; · iexact HO
    iexact G10
  iintro ⟨HO, Z210, A10⟩
  rw [wp_ret]; imodintro
  iapply Hk $$ %_ [Z202 A02 Z302 Q02 HO Z210 A10]
  isplitl [Z202]; · iexact Z202
  isplitl [A02]; · iexact A02
  isplitl [Z302]; · iexact Z302
  isplitl [Q02]; · iexact Q02
  isplitl [HO]; · iexact HO
  isplitl [Z210]; · iexact Z210
  iexact A10

/-- Waits in the plane. -/
theorem wp_part22 (c : Dev nD) (v2 : BitVec 32) (v8 : BitVec 32) (v64 : BitVec 32) (v594 : BitVec 32) (v595 : BitVec 32)  (Kt : _ → sProp 𝕄) :
    iprop(records m ρ K ∗ levAts L lv ∗ owesS c (tal ((dues c).drop 18)) ∗ CI c (xn 2 1 0 + 6) ∗ CI c (xn 2 1 1) ∗ CI c (xn 2 1 1 + 6))
      ⊢ iprop((∀ r, (semVal (dcell c (xn 2 1 0 + 6)) 0 ∗ qPts c (qx 0 (c.val / 4)) 1 fullShare (QA m ρ c) ∗ semVal (dcell c (xn 2 1 1)) 0 ∗ qPts c (c.val / 4) 1 (qsh 1) (QA m ρ c) ∗ owesS c (tal ((dues c).drop 18)) ∗ semVal (dcell c (xn 2 1 1 + 6)) 0 ∗ qPts c (qx 1 (c.val / 4)) 1 fullShare (QA m ρ c)) -∗ Kt r)
          -∗ wp frame (wpE (defs₀ (F := F)) 𝒱₀ (c : Thread nD τ) none) Set.univ
              (k0_part22 xM (Memref.isWhole_whole _) gM (Memref.isWhole_whole _) oM (Memref.isWhole_whole _) sM (Memref.isWhole_whole _) rM (Memref.isWhole_whole _) aM (Memref.isWhole_whole _) cc0_scratch3 cc0_scratch4 cc0_scratch5 cc0_scratch6 c v2 v8 v64 v594 v595) Kt) := by
  rw [k0_part22_eq_skeleton]; unfold k0_part22_skel
  simp only [semSignalWord, semWaitWord, Prog.lift, Prog.bind_op, Prog.bind_ret, Prog.pure_eq_ret, wp_deviceId]
  iintro ⟨#HR, #Hlev, HO, H10, G11, H11⟩ Hk
  iapply (wp_qrw m ρ K c 1 0 (by decide) (by decide) _ sem3_10 (by exact rfl) ((dues c).drop 18) (lvl_18 c _)) $$ [HO H10]
  · isplitr; · iexact HR
    isplitr; · iexact Hlev
    isplitl [HO]; · iexact HO
    iexact H10
  iintro ⟨HO, Z310, Q10⟩
  iapply (wp_qsw m ρ K c 1 1 (by decide) (by decide) _ sem2_11 (by exact rfl) ((dues c).drop 18) (lvl_18 c _)) $$ [HO G11]
  · isplitr; · iexact HR
    isplitr; · iexact Hlev
    isplitl [HO]; · iexact HO
    iexact G11
  iintro ⟨HO, Z211, A11⟩
  iapply (wp_qrw m ρ K c 1 1 (by decide) (by decide) _ sem3_11 (by exact rfl) ((dues c).drop 18) (lvl_18 c _)) $$ [HO H11]
  · isplitr; · iexact HR
    isplitr; · iexact Hlev
    isplitl [HO]; · iexact HO
    iexact H11
  iintro ⟨HO, Z311, Q11⟩
  rw [wp_ret]; imodintro
  iapply Hk $$ %_ [Z310 Q10 Z211 A11 HO Z311 Q11]
  isplitl [Z310]; · iexact Z310
  isplitl [Q10]; · iexact Q10
  isplitl [Z211]; · iexact Z211
  isplitl [A11]; · iexact A11
  isplitl [HO]; · iexact HO
  isplitl [Z311]; · iexact Z311
  iexact Q11

/-- The last two waits; the summed block is whole, and its first two quarters are loaded. -/
theorem wp_part23 (c : Dev nD) (v8 : BitVec 32) (v65 : BitVec 32) (v66 : BitVec 32)  (Kt : _ → sProp 𝕄) :
    iprop(records m ρ K ∗ levAts L lv ∗ owesS c (tal ((dues c).drop 18)) ∗ CI c (xn 2 1 2) ∗ CI c (xn 2 1 2 + 6) ∗ qPts c (c.val / 4) 0 (qsh 0) (QA m ρ c) ∗ qPts c (c.val / 4) 0 (qsh 1) (QA m ρ c) ∗ qPts c (c.val / 4) 0 (qsh 2) (QA m ρ c) ∗ qPts c (c.val / 4) 1 (qsh 0) (QA m ρ c) ∗ qPts c (c.val / 4) 1 (qsh 1) (QA m ρ c) ∗ qPts c (qx 0 (c.val / 4)) 0 fullShare (QA m ρ c) ∗ qPts c (qx 0 (c.val / 4)) 1 fullShare (QA m ρ c) ∗ qPts c (qx 1 (c.val / 4)) 0 fullShare (QA m ρ c) ∗ qPts c (qx 1 (c.val / 4)) 1 fullShare (QA m ρ c) ∗ qPts c (qx 2 (c.val / 4)) 0 fullShare (QA m ρ c))
      ⊢ iprop(((semVal (dcell c (xn 2 1 2)) 0 ∗ owesS c (tal ((dues c).drop 18)) ∗ semVal (dcell c (xn 2 1 2 + 6)) 0 ∗ aPts m ρ c) -∗ Kt (⟨k0_pay12 (a0 m ρ c) (a0 m ρ c), k0_pay13 (a1 m ρ c), a1 m ρ c⟩))
          -∗ wp frame (wpE (defs₀ (F := F)) 𝒱₀ (c : Thread nD τ) none) Set.univ
              (k0_part23 xM (Memref.isWhole_whole _) gM (Memref.isWhole_whole _) oM (Memref.isWhole_whole _) sM (Memref.isWhole_whole _) rM (Memref.isWhole_whole _) aM (Memref.isWhole_whole _) cc0_scratch3 cc0_scratch4 cc0_scratch5 cc0_scratch6 c v8 v65 v66) Kt) := by
  simp only [a0, a1, a2, a3, g0, rowF, col0, ldA, ldG]
  rw [k0_part23_eq_skeleton]; unfold k0_part23_skel
  simp only [semSignalWord, semWaitWord, Prog.lift, Prog.bind_op, Prog.bind_ret, Prog.pure_eq_ret, wp_deviceId]
  iintro ⟨#HR, #Hlev, HO, G12, H12, A00, A01, A02, A10, A11, Q00, Q10, Q01, Q11, Q02⟩ Hk
  iapply (wp_qsw m ρ K c 1 2 (by decide) (by decide) _ sem2_12 (by exact rfl) ((dues c).drop 18) (lvl_18 c _)) $$ [HO G12]
  · isplitr; · iexact HR
    isplitr; · iexact Hlev
    isplitl [HO]; · iexact HO
    iexact G12
  iintro ⟨HO, Z212, A12⟩
  iapply (wp_qrw m ρ K c 1 2 (by decide) (by decide) _ sem3_12 (by exact rfl) ((dues c).drop 18) (lvl_18 c _)) $$ [HO H12]
  · isplitr; · iexact HR
    isplitr; · iexact Hlev
    isplitl [HO]; · iexact HO
    iexact H12
  iintro ⟨HO, Z312, Q12⟩
  ihave HA := (q_join m ρ c) $$ [A00 A01 A02 A10 A11 A12 Q00 Q10 Q01 Q11 Q02 Q12]
  · isplitl [A00]; · iexact A00
    isplitl [A01]; · iexact A01
    isplitl [A02]; · iexact A02
    isplitl [A10]; · iexact A10
    isplitl [A11]; · iexact A11
    isplitl [A12]; · iexact A12
    isplitl [Q00]; · iexact Q00
    isplitl [Q10]; · iexact Q10
    isplitl [Q01]; · iexact Q01
    isplitl [Q11]; · iexact Q11
    isplitl [Q02]; · iexact Q02
    iexact Q12
  iapply (wp_lda m ρ c) $$ HA; iintro HA
  iapply (wp_lda m ρ c) $$ HA; iintro HA
  iapply (wp_lda m ρ c) $$ HA; iintro HA
  iapply (wp_lda m ρ c) $$ HA; iintro HA
  rw [wp_ret]; imodintro
  iapply Hk $$ [Z212 HO Z312 HA]
  isplitl [Z212]; · iexact Z212
  isplitl [HO]; · iexact HO
  isplitl [Z312]; · iexact Z312
  iexact HA

/-- The factor of every row; the first column quarter is stored. -/
theorem wp_part24 (c : Dev nD) (f : S512x512.Idx → Elt F .f32)  (Kt : _ → sProp 𝕄) :
    iprop(records m ρ K ∗ aPts m ρ c ∗ gPts m ρ c ∗ oPts c f)
      ⊢ iprop(((aPts m ρ c ∗ gPts m ρ c ∗ oPts c ((oM.access (orect ![0, 0] inb_S512x512_S512x128_0_0)).write (Elt F) (f) (col0 m ρ c) Finset.univ)) -∗ Kt (rowF m ρ c))
          -∗ wp frame (wpE (defs₀ (F := F)) 𝒱₀ (c : Thread nD τ) none) Set.univ
              (k0_part24 xM (Memref.isWhole_whole _) gM (Memref.isWhole_whole _) oM (Memref.isWhole_whole _) sM (Memref.isWhole_whole _) rM (Memref.isWhole_whole _) aM (Memref.isWhole_whole _) cc0_scratch3 cc0_scratch4 cc0_scratch5 cc0_scratch6 (k0_pay12 (a0 m ρ c) (a0 m ρ c)) (k0_pay13 (a1 m ρ c)) (a1 m ρ c)) Kt) := by
  simp only [a0, a1, a2, a3, g0, rowF, col0, ldA, ldG]
  rw [k0_part24_eq_skeleton]; unfold k0_part24_skel
  simp only [semSignalWord, semWaitWord, Prog.lift, Prog.bind_op, Prog.bind_ret, Prog.pure_eq_ret, wp_deviceId]
  iintro ⟨#HR, HA, HG, Hout⟩ Hk
  iapply (wp_lda m ρ c) $$ HA; iintro HA
  iapply (wp_lda m ρ c) $$ HA; iintro HA
  iapply (wp_lda m ρ c) $$ HA; iintro HA
  iapply (wp_lda m ρ c) $$ HA; iintro HA
  iapply (wp_lda m ρ c) $$ HA; iintro HA
  iapply (wp_ldg m ρ c) $$ HG; iintro HG
  iapply (wp_sto c _ _) $$ Hout; iintro Hout
  rw [wp_ret]; imodintro
  iapply Hk $$ [HA HG Hout]
  isplitl [HA]; · iexact HA
  isplitl [HG]; · iexact HG
  iexact Hout

end Cert.KernelIdealRun

end
-- ==== Proof.KernelIdealRun.Body.lean ====
/-
# The body, part after part

The parts in the order they run, from what a device starts with to what it holds before the last store.
-/
module

public import proofs.«01_k».proof.Proof.KernelIdealRun.Addr
public import proofs.«01_k».proof.Proof.KernelIdealRun.Waits
public import proofs.«01_k».proof.Proof.KernelIdealRun.PartsA
public import proofs.«01_k».proof.Proof.KernelIdealRun.PartsB
public import proofs.«01_k».proof.Proof.KernelIdealRun.PartsC
public import proofs.«01_k».proof.Proof.KernelIdealRun.Out

@[expose] public section

noncomputable section

namespace Cert.KernelIdealRun

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Fin 25 → ℕ)

/-- What a barrier duty of a device further along `z` hands over. -/
theorem barPay_getz (c : Dev nD) (j : ℕ) (hj : j < 3) (d : Fin 6) (hd : d.val = j) :
    (barPay c d : sProp 𝕄) = iprop((∃ f, zrPts (zp (j + 1) c) 0 j f) ∗ (∃ f, zrPts (zp (j + 1) c) 1 j f)) := by
  subst hd; unfold barPay; exact if_pos hj
/-- What a barrier duty of a peer in the plane hands over. -/
theorem barPay_getq (c : Dev nD) (j : ℕ) (hj : j < 3) (d : Fin 6) (hd : d.val = 3 + j) :
    (barPay c d : sProp 𝕄) = iprop((∃ f, qPts (xyp j c) (c.val / 4) 0 fullShare f) ∗ (∃ f, qPts (xyp j c) (c.val / 4) 1 fullShare f)) := by
  unfold barPay; rw [if_neg (by omega), show d.val - 3 = j by omega]

set_option maxHeartbeats 1600000 in
/-- The body up to its last store. -/
theorem wp_part25 (c : Dev nD) (f : S512x512.Idx → Elt F .f32) (Kt : _ → sProp 𝕄) :
    iprop(records m ρ K ∗ levAts L lv ∗ owesS c (tal ((dues c).drop 0)) ∗ dutyTok ER (barCell (zp 1 c)) 0 2 ∗ barPay (zp 1 c) 2 ∗ dutyTok ER (barCell (zp 2 c)) 0 1 ∗ barPay (zp 2 c) 1 ∗ dutyTok ER (barCell (zp 3 c)) 0 0 ∗ barPay (zp 3 c) 0 ∗ dutyTok ER (barCell (xyp 0 c)) 0 3 ∗ barPay (xyp 0 c) 3 ∗ dutyTok ER (barCell (xyp 1 c)) 0 4 ∗ barPay (xyp 1 c) 4 ∗ dutyTok ER (barCell (xyp 2 c)) 0 5 ∗ barPay (xyp 2 c) 5 ∗ cred (tallyAt (barCell c) () 6) ∗ atPos ER (barCell c) 0 ∅ 0 ∗ xPts m ρ c ∗ (∃ f, zsPts c 0 0 f) ∗ XT c (zp (0 + 1) c) (xn 0 0 0) ∗ (∃ f, zsPts c 0 1 f) ∗ XT c (zp (1 + 1) c) (xn 0 0 1) ∗ (∃ f, zsPts c 0 2 f) ∗ XT c (zp (2 + 1) c) (xn 0 0 2) ∗ (∃ f, zsPts c 1 0 f) ∗ XT c (zp (0 + 1) c) (xn 0 1 0) ∗ (∃ f, zsPts c 1 1 f) ∗ XT c (zp (1 + 1) c) (xn 0 1 1) ∗ (∃ f, zsPts c 1 2 f) ∗ XT c (zp (2 + 1) c) (xn 0 1 2) ∗ (∃ f, qPts c (c.val / 4) 0 fullShare f) ∗ XT c (xyp 0 c) (xn 2 0 0) ∗ XT c (xyp 1 c) (xn 2 0 1) ∗ XT c (xyp 2 c) (xn 2 0 2) ∗ (∃ f, qPts c (c.val / 4) 1 fullShare f) ∗ XT c (xyp 0 c) (xn 2 1 0) ∗ XT c (xyp 1 c) (xn 2 1 1) ∗ XT c (xyp 2 c) (xn 2 1 2) ∗ gPts m ρ c ∗ oPts c f)
      ⊢ iprop(((semVal (barCell c) 0 ∗ semVal (dcell c (xn 0 0 0)) 0 ∗ zsPts c 0 0 (ZS m ρ c) ∗ semVal (dcell c (xn 0 0 0 + 6)) 0 ∗ semVal (dcell c (xn 0 0 1)) 0 ∗ zsPts c 0 1 (ZS m ρ c) ∗ semVal (dcell c (xn 0 0 1 + 6)) 0 ∗ semVal (dcell c (xn 0 0 2)) 0 ∗ zsPts c 0 2 (ZS m ρ c) ∗ semVal (dcell c (xn 0 0 2 + 6)) 0 ∗ zrPts c 0 0 (ZR m ρ c) ∗ zrPts c 0 1 (ZR m ρ c) ∗ zrPts c 0 2 (ZR m ρ c) ∗ semVal (dcell c (xn 0 1 0)) 0 ∗ zsPts c 1 0 (ZS m ρ c) ∗ semVal (dcell c (xn 0 1 0 + 6)) 0 ∗ semVal (dcell c (xn 0 1 1)) 0 ∗ zsPts c 1 1 (ZS m ρ c) ∗ semVal (dcell c (xn 0 1 1 + 6)) 0 ∗ semVal (dcell c (xn 0 1 2)) 0 ∗ zsPts c 1 2 (ZS m ρ c) ∗ semVal (dcell c (xn 0 1 2 + 6)) 0 ∗ xPts m ρ c ∗ zrPts c 1 0 (ZR m ρ c) ∗ zrPts c 1 1 (ZR m ρ c) ∗ zrPts c 1 2 (ZR m ρ c) ∗ semVal (dcell c (xn 2 0 0)) 0 ∗ semVal (dcell c (xn 2 0 0 + 6)) 0 ∗ semVal (dcell c (xn 2 0 1)) 0 ∗ semVal (dcell c (xn 2 0 1 + 6)) 0 ∗ semVal (dcell c (xn 2 0 2)) 0 ∗ semVal (dcell c (xn 2 0 2 + 6)) 0 ∗ semVal (dcell c (xn 2 1 0)) 0 ∗ semVal (dcell c (xn 2 1 0 + 6)) 0 ∗ semVal (dcell c (xn 2 1 1)) 0 ∗ semVal (dcell c (xn 2 1 1 + 6)) 0 ∗ semVal (dcell c (xn 2 1 2)) 0 ∗ owesS c (tal ((dues c).drop 18)) ∗ semVal (dcell c (xn 2 1 2 + 6)) 0 ∗ aPts m ρ c ∗ gPts m ρ c ∗ oPts c ((oM.access (orect ![0, 256] inb_S512x512_S512x128_0_256)).write (Elt F) (((oM.access (orect ![0, 128] inb_S512x512_S512x128_0_128)).write (Elt F) (((oM.access (orect ![0, 0] inb_S512x512_S512x128_0_0)).write (Elt F) (f) (col0 m ρ c) Finset.univ)) (col1 m ρ c) Finset.univ)) (col2 m ρ c) Finset.univ)) -∗ Kt (rowF m ρ c))
        -∗ wp frame (wpE (defs₀ (F := F)) 𝒱₀ (c : Thread nD τ) none) Set.univ
              (k0_part25 xM (Memref.isWhole_whole _) gM (Memref.isWhole_whole _) oM (Memref.isWhole_whole _) sM (Memref.isWhole_whole _) rM (Memref.isWhole_whole _) aM (Memref.isWhole_whole _) cc0_scratch3 cc0_scratch4 cc0_scratch5 cc0_scratch6) Kt) := by
  rw [k0_part25_eq_skeleton]; unfold k0_part25_skel
  iintro ⟨#HR, #Hlev, HO, Tb2, Pb2, Tb1, Pb1, Tb0, Pb0, Tb3, Pb3, Tb4, Pb4, Tb5, Pb5, CB, AB, X, S00, T00, S01, T01, S02, T02, S10, T10, S11, T11, S12, T12, A0, U00, U01, U02, A1, U10, U11, U12, HG, Hout⟩ Hk
  -- part 1
  rw [wp_bind]
  iapply (wp_part1 m ρ K c _) $$ [HO Tb2 Pb2]
  · isplitr; · iexact HR
    isplitl [HO]; · iexact HO
    isplitl [Tb2]; · iexact Tb2
    iexact Pb2
  iintro %v2 %v5 %v8 %v10 %v31 %v32 %v33
  iintro HO
  try dsimp only
  -- part 2
  rw [wp_bind]
  iapply (wp_part2 m ρ K c _ _ _ _ _ _ _) $$ [HO Tb1 Pb1 Tb0 Pb0]
  · isplitr; · iexact HR
    isplitl [HO]; · iexact HO
    isplitl [Tb1]; · iexact Tb1
    isplitl [Pb1]; · iexact Pb1
    isplitl [Tb0]; · iexact Tb0
    iexact Pb0
  iintro %r
  obtain ⟨v63, v64, v65, v66, c8_i32_42⟩ := r
  iintro HO
  try dsimp only
  -- part 3
  rw [wp_bind]
  iapply (wp_part3 m ρ K c _ _ _ _ _ _ _ _ _) $$ [HO Tb3 Pb3 Tb4 Pb4 Tb5 Pb5 CB AB]
  · isplitr; · iexact HR
    isplitr; · iexact Hlev
    isplitl [HO]; · iexact HO
    isplitl [Tb3]; · iexact Tb3
    isplitl [Pb3]; · iexact Pb3
    isplitl [Tb4]; · iexact Tb4
    isplitl [Pb4]; · iexact Pb4
    isplitl [Tb5]; · iexact Tb5
    isplitl [Pb5]; · iexact Pb5
    isplitl [CB]; · iexact CB
    iexact AB
  iintro %r
  obtain ⟨v96, v97, c0_i32_64⟩ := r
  iintro ⟨HO, ZB, B0, B1, B2, B3, B4, B5⟩
  try dsimp only
  -- what the barrier handed over, slot by slot
  icases (Entails.of_eq (barPay_getz c 0 (by decide) 0 rfl)) $$ B0 with ⟨D00, D10⟩
  icases (Entails.of_eq (barPay_getq c 0 (by decide) 3 rfl)) $$ B3 with ⟨F00, F10⟩
  icases (Entails.of_eq (barPay_getz c 1 (by decide) 1 rfl)) $$ B1 with ⟨D01, D11⟩
  icases (Entails.of_eq (barPay_getq c 1 (by decide) 4 rfl)) $$ B4 with ⟨F01, F11⟩
  icases (Entails.of_eq (barPay_getz c 2 (by decide) 2 rfl)) $$ B2 with ⟨D02, D12⟩
  icases (Entails.of_eq (barPay_getq c 2 (by decide) 5 rfl)) $$ B5 with ⟨F02, F12⟩
  -- part 4
  rw [wp_bind]
  iapply (wp_part4 m ρ K c _ _ _ _ _ _ _ _) $$ [X S00 HO T00 D00]
  · isplitr; · iexact HR
    isplitl [X]; · iexact X
    isplitl [S00]; · iexact S00
    isplitl [HO]; · iexact HO
    isplitl [T00]; · iexact T00
    iexact D00
  iintro %r
  obtain ⟨v124, v125, v126, c0_i32_91⟩ := r
  iintro ⟨X, HO, C00, E00⟩
  try dsimp only
  -- part 5
  rw [wp_bind]
  iapply (wp_part5 m ρ K c _ _ _ _ _ _ _ _ _) $$ [X S01 HO T01 D01]
  · isplitr; · iexact HR
    isplitl [X]; · iexact X
    isplitl [S01]; · iexact S01
    isplitl [HO]; · iexact HO
    isplitl [T01]; · iexact T01
    iexact D01
  iintro %r
  obtain ⟨v132, v157, c1_i32_117⟩ := r
  iintro ⟨X, HO, C01, E01⟩
  try dsimp only
  -- part 6
  rw [wp_bind]
  iapply (wp_part6 m ρ K c _ _ _ _ _ _) $$ [X S02]
  · isplitr; · iexact HR
    isplitl [X]; · iexact X
    iexact S02
  iintro %r
  iintro ⟨X, S02⟩
  try dsimp only
  -- part 7
  rw [wp_bind]
  iapply (wp_part7 m ρ K c _ _ _ _ _) $$ [HO T02 S02 D02 X S10]
  · isplitr; · iexact HR
    isplitl [HO]; · iexact HO
    isplitl [T02]; · iexact T02
    isplitl [S02]; · iexact S02
    isplitl [D02]; · iexact D02
    isplitl [X]; · iexact X
    iexact S10
  iintro %r
  obtain ⟨v204, v216, v217⟩ := r
  iintro ⟨HO, C02, E02, X, S10⟩
  try dsimp only
  -- part 8
  rw [wp_bind]
  iapply (wp_part8 m ρ K c _ _ _ _ _ _) $$ [HO T10 S10 D10 X S11]
  · isplitr; · iexact HR
    isplitl [HO]; · iexact HO
    isplitl [T10]; · iexact T10
    isplitl [S10]; · iexact S10
    isplitl [D10]; · iexact D10
    isplitl [X]; · iexact X
    iexact S11
  iintro %r
  iintro ⟨HO, C10, E10, X, S11⟩
  try dsimp only
  -- part 9
  rw [wp_bind]
  iapply (wp_part9 m ρ K c _ _ _ _ _ _) $$ [HO T11 S11 D11 X]
  · isplitr; · iexact HR
    isplitl [HO]; · iexact HO
    isplitl [T11]; · iexact T11
    isplitl [S11]; · iexact S11
    isplitl [D11]; · iexact D11
    iexact X
  iintro %v
  iintro ⟨HO, C11, E11, X⟩
  try dsimp only
  -- part 10
  rw [wp_bind]
  iapply (wp_part10 m ρ K c _ _ _ _) $$ [S12 HO T12 D12 C00]
  · isplitr; · iexact HR
    isplitr; · iexact Hlev
    isplitl [S12]; · iexact S12
    isplitl [HO]; · iexact HO
    isplitl [T12]; · iexact T12
    isplitl [D12]; · iexact D12
    iexact C00
  iintro %r
  iintro ⟨C12, E12, HO, Z000, S00⟩
  try dsimp only
  -- part 11
  rw [wp_bind]
  iapply (wp_part11 m ρ K c _ _ _ _) $$ [HO E00 C01]
  · isplitr; · iexact HR
    isplitr; · iexact Hlev
    isplitl [HO]; · iexact HO
    isplitl [E00]; · iexact E00
    iexact C01
  iintro %r
  obtain ⟨v326, v327⟩ := r
  iintro ⟨Z100, R00, HO, Z001, S01⟩
  try dsimp only
  -- part 12
  rw [wp_bind]
  iapply (wp_part12 m ρ K c _ _ _ _ _ _ _) $$ [HO E01 C02]
  · isplitr; · iexact HR
    isplitr; · iexact Hlev
    isplitl [HO]; · iexact HO
    isplitl [E01]; · iexact E01
    iexact C02
  iintro %r
  iintro ⟨Z101, R01, HO, Z002, S02⟩
  try dsimp only
  -- part 13
  rw [wp_bind]
  iapply (wp_part13 m ρ K c _ _ _ _ _) $$ [HO E02 X R00 R01 A0]
  · isplitr; · iexact HR
    isplitr; · iexact Hlev
    isplitl [HO]; · iexact HO
    isplitl [E02]; · iexact E02
    isplitl [X]; · iexact X
    isplitl [R00]; · iexact R00
    isplitl [R01]; · iexact R01
    iexact A0
  iintro %r
  iintro ⟨HO, Z102, X, R00, R01, R02, A00, A01, A02⟩
  try dsimp only
  -- part 14
  rw [wp_bind]
  iapply (wp_part14 m ρ K c _ _ _ _ _ _) $$ [HO U00 A00 F00 U01 A01 F01]
  · isplitr; · iexact HR
    isplitl [HO]; · iexact HO
    isplitl [U00]; · iexact U00
    isplitl [A00]; · iexact A00
    isplitl [F00]; · iexact F00
    isplitl [U01]; · iexact U01
    isplitl [A01]; · iexact A01
    iexact F01
  iintro %r
  iintro ⟨G00, H00, HO, G01, H01⟩
  try dsimp only
  -- part 15
  rw [wp_bind]
  iapply (wp_part15 m ρ K c _ _ _ _) $$ [HO U02 A02 F02 C10 E10]
  · isplitr; · iexact HR
    isplitr; · iexact Hlev
    isplitl [HO]; · iexact HO
    isplitl [U02]; · iexact U02
    isplitl [A02]; · iexact A02
    isplitl [F02]; · iexact F02
    isplitl [C10]; · iexact C10
    iexact E10
  iintro %r
  iintro ⟨G02, H02, Z010, S10, HO, Z110, R10⟩
  try dsimp only
  -- part 16
  rw [wp_bind]
  iapply (wp_part16 m ρ K c _ _ _ _) $$ [HO C11 E11]
  · isplitr; · iexact HR
    isplitr; · iexact Hlev
    isplitl [HO]; · iexact HO
    isplitl [C11]; · iexact C11
    iexact E11
  iintro %r
  iintro ⟨Z011, S11, HO, Z111, R11⟩
  try dsimp only
  -- part 17
  rw [wp_bind]
  iapply (wp_part17 m ρ K c _ _ _ _ _ _) $$ [HO C12 E12 X R10 R11]
  · isplitr; · iexact HR
    isplitr; · iexact Hlev
    isplitl [HO]; · iexact HO
    isplitl [C12]; · iexact C12
    isplitl [E12]; · iexact E12
    isplitl [X]; · iexact X
    isplitl [R10]; · iexact R10
    iexact R11
  iintro ⟨Z012, S12, HO, Z112, R12, X, R10, R11⟩
  try dsimp only
  -- part 18
  rw [wp_bind]
  iapply (wp_part18 m ρ K c _ _ _ _ _ _ _) $$ [R12 A1 HO U10 F10]
  · isplitr; · iexact HR
    isplitl [R12]; · iexact R12
    isplitl [A1]; · iexact A1
    isplitl [HO]; · iexact HO
    isplitl [U10]; · iexact U10
    iexact F10
  iintro %r
  iintro ⟨R12, A11, A12, HO, G10, H10⟩
  try dsimp only
  -- part 19
  rw [wp_bind]
  iapply (wp_part19 m ρ K c _ _ _ _ _ _) $$ [HO U11 A11 F11 U12 A12 F12 G00]
  · isplitr; · iexact HR
    isplitr; · iexact Hlev
    isplitl [HO]; · iexact HO
    isplitl [U11]; · iexact U11
    isplitl [A11]; · iexact A11
    isplitl [F11]; · iexact F11
    isplitl [U12]; · iexact U12
    isplitl [A12]; · iexact A12
    isplitl [F12]; · iexact F12
    iexact G00
  iintro %r
  obtain ⟨v542, v543⟩ := r
  iintro ⟨G11, H11, G12, H12, HO, Z200, A00⟩
  try dsimp only
  -- part 20
  rw [wp_bind]
  iapply (wp_part20 m ρ K c _ _ _ _ _ _) $$ [HO H00 G01 H01]
  · isplitr; · iexact HR
    isplitr; · iexact Hlev
    isplitl [HO]; · iexact HO
    isplitl [H00]; · iexact H00
    isplitl [G01]; · iexact G01
    iexact H01
  iintro %r
  iintro ⟨Z300, Q00, Z201, A01, HO, Z301, Q01⟩
  try dsimp only
  -- part 21
  rw [wp_bind]
  iapply (wp_part21 m ρ K c _ _ _ _ _ _) $$ [HO G02 H02 G10]
  · isplitr; · iexact HR
    isplitr; · iexact Hlev
    isplitl [HO]; · iexact HO
    isplitl [G02]; · iexact G02
    isplitl [H02]; · iexact H02
    iexact G10
  iintro %r
  obtain ⟨v594, v595⟩ := r
  iintro ⟨Z202, A02, Z302, Q02, HO, Z210, A10⟩
  try dsimp only
  -- part 22
  rw [wp_bind]
  iapply (wp_part22 m ρ K c _ _ _ _ _ _) $$ [HO H10 G11 H11]
  · isplitr; · iexact HR
    isplitr; · iexact Hlev
    isplitl [HO]; · iexact HO
    isplitl [H10]; · iexact H10
    isplitl [G11]; · iexact G11
    iexact H11
  iintro %r
  iintro ⟨Z310, Q10, Z211, A11, HO, Z311, Q11⟩
  try dsimp only
  -- part 23
  rw [wp_bind]
  iapply (wp_part23 m ρ K c _ _ _ _) $$ [HO G12 H12 A00 A01 A02 A10 A11 Q00 Q10 Q01 Q11 Q02]
  · isplitr; · iexact HR
    isplitr; · iexact Hlev
    isplitl [HO]; · iexact HO
    isplitl [G12]; · iexact G12
    isplitl [H12]; · iexact H12
    isplitl [A00]; · iexact A00
    isplitl [A01]; · iexact A01
    isplitl [A02]; · iexact A02
    isplitl [A10]; · iexact A10
    isplitl [A11]; · iexact A11
    isplitl [Q00]; · iexact Q00
    isplitl [Q10]; · iexact Q10
    isplitl [Q01]; · iexact Q01
    isplitl [Q11]; · iexact Q11
    iexact Q02
  iintro ⟨Z212, HO, Z312, HA⟩
  try dsimp only
  -- part 24
  rw [wp_bind]
  iapply (wp_part24 m ρ K c _ _) $$ [HA HG Hout]
  · isplitr; · iexact HR
    isplitl [HA]; · iexact HA
    isplitl [HG]; · iexact HG
    iexact Hout
  iintro ⟨HA, HG, Hout⟩
  try dsimp only
  -- the second and the third column quarter
  simp only [Prog.lift, Prog.bind_op, Prog.bind_ret, Prog.pure_eq_ret]
  iapply (wp_lda m ρ c) $$ HA; iintro HA
  iapply (wp_ldg m ρ c) $$ HG; iintro HG
  iapply (wp_sto c _ _) $$ Hout; iintro Hout
  iapply (wp_lda m ρ c) $$ HA; iintro HA
  iapply (wp_ldg m ρ c) $$ HG; iintro HG
  iapply (wp_sto c _ _) $$ Hout; iintro Hout
  rw [wp_ret]; imodintro
  iapply Hk $$ [ZB Z000 S00 Z100 Z001 S01 Z101 Z002 S02 Z102 R00 R01 R02 Z010 S10 Z110 Z011 S11 Z111 Z012 S12 Z112 X R10 R11 R12 Z200 Z300 Z201 Z301 Z202 Z302 Z210 Z310 Z211 Z311 Z212 HO Z312 HA HG Hout]
  isplitl [ZB]; · iexact ZB
  isplitl [Z000]; · iexact Z000
  isplitl [S00]; · iexact S00
  isplitl [Z100]; · iexact Z100
  isplitl [Z001]; · iexact Z001
  isplitl [S01]; · iexact S01
  isplitl [Z101]; · iexact Z101
  isplitl [Z002]; · iexact Z002
  isplitl [S02]; · iexact S02
  isplitl [Z102]; · iexact Z102
  isplitl [R00]; · iexact R00
  isplitl [R01]; · iexact R01
  isplitl [R02]; · iexact R02
  isplitl [Z010]; · iexact Z010
  isplitl [S10]; · iexact S10
  isplitl [Z110]; · iexact Z110
  isplitl [Z011]; · iexact Z011
  isplitl [S11]; · iexact S11
  isplitl [Z111]; · iexact Z111
  isplitl [Z012]; · iexact Z012
  isplitl [S12]; · iexact S12
  isplitl [Z112]; · iexact Z112
  isplitl [X]; · iexact X
  isplitl [R10]; · iexact R10
  isplitl [R11]; · iexact R11
  isplitl [R12]; · iexact R12
  isplitl [Z200]; · iexact Z200
  isplitl [Z300]; · iexact Z300
  isplitl [Z201]; · iexact Z201
  isplitl [Z301]; · iexact Z301
  isplitl [Z202]; · iexact Z202
  isplitl [Z302]; · iexact Z302
  isplitl [Z210]; · iexact Z210
  isplitl [Z310]; · iexact Z310
  isplitl [Z211]; · iexact Z211
  isplitl [Z311]; · iexact Z311
  isplitl [Z212]; · iexact Z212
  isplitl [HO]; · iexact HO
  isplitl [Z312]; · iexact Z312
  isplitl [HA]; · iexact HA
  isplitl [HG]; · iexact HG
  iexact Hout

end Cert.KernelIdealRun

end
-- ==== Proof.KernelIdealRun.Start.lean ====
/-
# The body: from what the launch deals a device to its block of the result

What a device starts from, what it ends with, and the body between them.
-/
module

public import proofs.«01_k».proof.Proof.KernelIdealRun.Body

@[expose] public section

noncomputable section

namespace Cert.KernelIdealRun

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What a device starts from -/

/-- The duty tokens of a device's own cells, numbered: its barrier's six, then its twenty-four transfer cells' one each. -/
def tokOf (ck : Dev nD × Fin 30) : GSem nD τ sig × ℕ × Fin 6 :=
  if ck.2.val < 6 then (barCell ck.1, 0, ⟨ck.2.val % 6, Nat.mod_lt _ (by decide)⟩) else (dcell ck.1 (ck.2.val - 6), 0, 0)
/-- The token numbered `k` of device `c`'s cells. -/
def tokAt (c : Dev nD) (k : Fin 30) : sProp 𝕄 := dutyTok ER (tokOf (c, k)).1 (tokOf (c, k)).2.1 (tokOf (c, k)).2.2

/-- Whose cell the token numbered `k` that a device pays with belongs to. -/
def payee (k : Fin 30) : Dev nD ≃ Dev nD :=
  if h : k.val < 3 then zEquiv (3 - k.val) (k.val + 1) (by omega)
  else if h : k.val < 6 then xyEquiv (k.val - 3) (by omega)
  else if 12 ≤ k.val ∧ k.val < 18 then zEquiv (k.val % 3 + 1) (3 - k.val % 3) (by omega)
  else if 24 ≤ k.val then xyEquiv (k.val % 3) (Nat.mod_lt _ (by decide))
  else Equiv.refl _

/-- The tokens of the duties a device pays. -/
def payToks (c : Dev nD) : sProp 𝕄 := bigSep Finset.univ fun k : Fin 30 => tokAt (payee k c) k
/-- A device's positions on its own cells. -/
def poss (c : Dev nD) : sProp 𝕄 := bigSep Finset.univ fun k : Fin 25 => atPos ER (kcell (c, k)) 0 ∅ 0
/-- What a device is owed: its barrier's six units and every arrival's credit. -/
def creds (c : Dev nD) : sProp 𝕄 :=
  iprop(cred (tallyAt (barCell c) () 6) ∗ bigSep Finset.univ fun k : Fin 12 => cred (tallyAt (dcell c (if k.val < 6 then 6 + k.val else 12 + k.val)) () N))

/-- The records of all cells, a device's positions and the tokens it pays with. -/
def ghost (K : Dev nD × Fin 25 → ℕ) (c : Dev nD) : sProp 𝕄 := iprop(records m ρ K ∗ poss c ∗ payToks c)
def start (c : Dev nD) : sProp 𝕄 := iprop((∃ K, ghost m ρ K c) ∗ creds c ∗ levAts L lv)

/-- The three scratch buffers, at some contents. -/
def scr (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f))

def Φ₀ (c : Dev nD) : sProp 𝕄 := iprop(start m ρ c ∗ scr c)
/-- After the body: the scratch buffers, and every cell closed with its counter at zero. -/
def Φ₁ (c : Dev nD) : sProp 𝕄 := iprop(scr c ∗ (bigSep Finset.univ fun n : Fin 24 => semVal (dcell c n.val) 0) ∗ semVal (barCell c) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => gstg m ρ c
    | ⟨2, _⟩ => OUT m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The lists behind the numbered families -/

set_option maxRecDepth 4000 in
omit [FloatOps F] in
/-- The thirty tokens a device pays with. -/
theorem payToks_eq (c : Dev nD) : (payToks c : sProp 𝕄)
    = iprop(dutyTok ER (barCell (zp 3 c)) 0 0 ∗ dutyTok ER (barCell (zp 2 c)) 0 1 ∗ dutyTok ER (barCell (zp 1 c)) 0 2 ∗ dutyTok ER (barCell (xyp 0 c)) 0 3 ∗ dutyTok ER (barCell (xyp 1 c)) 0 4 ∗ dutyTok ER (barCell (xyp 2 c)) 0 5 ∗ dutyTok ER (dcell c 0) 0 0 ∗ dutyTok ER (dcell c 1) 0 0 ∗ dutyTok ER (dcell c 2) 0 0 ∗ dutyTok ER (dcell c 3) 0 0 ∗ dutyTok ER (dcell c 4) 0 0 ∗ dutyTok ER (dcell c 5) 0 0 ∗ dutyTok ER (dcell (zp (0 + 1) c) 6) 0 0 ∗ dutyTok ER (dcell (zp (1 + 1) c) 7) 0 0 ∗ dutyTok ER (dcell (zp (2 + 1) c) 8) 0 0 ∗ dutyTok ER (dcell (zp (0 + 1) c) 9) 0 0 ∗ dutyTok ER (dcell (zp (1 + 1) c) 10) 0 0 ∗ dutyTok ER (dcell (zp (2 + 1) c) 11) 0 0 ∗ dutyTok ER (dcell c 12) 0 0 ∗ dutyTok ER (dcell c 13) 0 0 ∗ dutyTok ER (dcell c 14) 0 0 ∗ dutyTok ER (dcell c 15) 0 0 ∗ dutyTok ER (dcell c 16) 0 0 ∗ dutyTok ER (dcell c 17) 0 0 ∗ dutyTok ER (dcell (xyp 0 c) 18) 0 0 ∗ dutyTok ER (dcell (xyp 1 c) 19) 0 0 ∗ dutyTok ER (dcell (xyp 2 c) 20) 0 0 ∗ dutyTok ER (dcell (xyp 0 c) 21) 0 0 ∗ dutyTok ER (dcell (xyp 1 c) 22) 0 0 ∗ dutyTok ER (dcell (xyp 2 c) 23) 0 0) := by
  unfold payToks; rw [bigSep_univ_eq_bigSepL [0, 1, 2, 3, 4, 5, 6, 7, 8, 9, 10, 11, 12, 13, 14, 15, 16, 17, 18, 19, 20, 21, 22, 23, 24, 25, 26, 27, 28, 29] (by decide) (by decide)]
  rfl

set_option maxRecDepth 4000 in
omit [FloatOps F] in
/-- A device's twenty-five positions. -/
theorem poss_eq (c : Dev nD) : (poss c : sProp 𝕄)
    = iprop(atPos ER (barCell c) 0 ∅ 0 ∗ atPos ER (dcell c 0) 0 ∅ 0 ∗ atPos ER (dcell c 1) 0 ∅ 0 ∗ atPos ER (dcell c 2) 0 ∅ 0 ∗ atPos ER (dcell c 3) 0 ∅ 0 ∗ atPos ER (dcell c 4) 0 ∅ 0 ∗ atPos ER (dcell c 5) 0 ∅ 0 ∗ atPos ER (dcell c 6) 0 ∅ 0 ∗ atPos ER (dcell c 7) 0 ∅ 0 ∗ atPos ER (dcell c 8) 0 ∅ 0 ∗ atPos ER (dcell c 9) 0 ∅ 0 ∗ atPos ER (dcell c 10) 0 ∅ 0 ∗ atPos ER (dcell c 11) 0 ∅ 0 ∗ atPos ER (dcell c 12) 0 ∅ 0 ∗ atPos ER (dcell c 13) 0 ∅ 0 ∗ atPos ER (dcell c 14) 0 ∅ 0 ∗ atPos ER (dcell c 15) 0 ∅ 0 ∗ atPos ER (dcell c 16) 0 ∅ 0 ∗ atPos ER (dcell c 17) 0 ∅ 0 ∗ atPos ER (dcell c 18) 0 ∅ 0 ∗ atPos ER (dcell c 19) 0 ∅ 0 ∗ atPos ER (dcell c 20) 0 ∅ 0 ∗ atPos ER (dcell c 21) 0 ∅ 0 ∗ atPos ER (dcell c 22) 0 ∅ 0 ∗ atPos ER (dcell c 23) 0 ∅ 0) := by
  unfold poss; rw [bigSep_univ_eq_bigSepL [0, 1, 2, 3, 4, 5, 6, 7, 8, 9, 10, 11, 12, 13, 14, 15, 16, 17, 18, 19, 20, 21, 22, 23, 24] (by decide) (by decide)]
  rfl

omit [FloatOps F] in
/-- The twelve arrivals' credits. -/
theorem creds_eq (c : Dev nD) : (bigSep Finset.univ fun k : Fin 12 => cred (tallyAt (dcell c (if k.val < 6 then 6 + k.val else 12 + k.val)) () N) : sProp 𝕄)
    = iprop(cred (tallyAt (dcell c 6) () N) ∗ cred (tallyAt (dcell c 7) () N) ∗ cred (tallyAt (dcell c 8) () N) ∗ cred (tallyAt (dcell c 9) () N) ∗ cred (tallyAt (dcell c 10) () N) ∗ cred (tallyAt (dcell c 11) () N) ∗ cred (tallyAt (dcell c 18) () N) ∗ cred (tallyAt (dcell c 19) () N) ∗ cred (tallyAt (dcell c 20) () N) ∗ cred (tallyAt (dcell c 21) () N) ∗ cred (tallyAt (dcell c 22) () N) ∗ cred (tallyAt (dcell c 23) () N)) := by
  rw [bigSep_univ_eq_bigSepL [0, 1, 2, 3, 4, 5, 6, 7, 8, 9, 10, 11] (by decide) (by decide)]
  rfl

omit [FloatOps F] in
/-- The twenty-four counters at zero. -/
theorem zeros_eq (c : Dev nD) : (bigSep Finset.univ fun n : Fin 24 => semVal (dcell c n.val) 0 : sProp 𝕄)
    = iprop(semVal (dcell c 0) 0 ∗ semVal (dcell c 1) 0 ∗ semVal (dcell c 2) 0 ∗ semVal (dcell c 3) 0 ∗ semVal (dcell c 4) 0 ∗ semVal (dcell c 5) 0 ∗ semVal (dcell c 6) 0 ∗ semVal (dcell c 7) 0 ∗ semVal (dcell c 8) 0 ∗ semVal (dcell c 9) 0 ∗ semVal (dcell c 10) 0 ∗ semVal (dcell c 11) 0 ∗ semVal (dcell c 12) 0 ∗ semVal (dcell c 13) 0 ∗ semVal (dcell c 14) 0 ∗ semVal (dcell c 15) 0 ∗ semVal (dcell c 16) 0 ∗ semVal (dcell c 17) 0 ∗ semVal (dcell c 18) 0 ∗ semVal (dcell c 19) 0 ∗ semVal (dcell c 20) 0 ∗ semVal (dcell c 21) 0 ∗ semVal (dcell c 22) 0 ∗ semVal (dcell c 23) 0) := by
  rw [bigSep_univ_eq_bigSepL [0, 1, 2, 3, 4, 5, 6, 7, 8, 9, 10, 11, 12, 13, 14, 15, 16, 17, 18, 19, 20, 21, 22, 23] (by decide) (by decide)]
  rfl

omit [FloatOps F] in
/-- What a transfer starts from, put together. -/
theorem XT_mk (c c' : Dev nD) (n : ℕ) :
    iprop(atPos ER (dcell c n) 0 ∅ 0 ∗ atPos ER (dcell c (n + 6)) 0 ∅ 0 ∗ cred (tallyAt (dcell c (n + 6)) () N)
      ∗ dutyTok ER (dcell c n) 0 0 ∗ dutyTok ER (dcell c' (n + 6)) 0 0) ⊢ (XT c c' n : sProp 𝕄) := by
  unfold XT
  iintro ⟨H1, H2, H3, H4, H5⟩
  isplitl [H1]; · iexact H1
  isplitl [H2 H3]; · isplitl [H2] <;> iassumption
  isplitl [H4] <;> iassumption

/-! ## The body -/

section Body

variable (K : Dev nD × Fin 25 → ℕ)

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop((ghost m ρ K c ∗ creds c ∗ levAts L lv) ∗ scr c
    ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))

def bodyPost (c : Dev nD) : sProp 𝕄 :=
  iprop(Φ₁ c ∗ (dats m ρ 0 c).owesAt () t0_0.succ ∗ stg c cc0_stg0_0 (xstg m ρ c) ∗ stg c cc0_stg1_0 (gstg m ρ c) ∗ stg c cc0_stg2_0 (OUT m ρ c))

set_option maxHeartbeats 1600000 in
/-- The body, from what a device starts with to its block of the result. -/
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6) Kt := by
  rw [cc0_body_eq_skeleton]; unfold cc0_body_skel
  unfold bodyPre ghost creds scr
  rw [poss_eq, payToks_eq, creds_eq]
  iintro ⟨⟨⟨⟨#HR, ⟨AB, P0, P1, P2, P3, P4, P5, P6, P7, P8, P9, P10, P11, P12, P13, P14, P15, P16, P17, P18, P19, P20, P21, P22, P23⟩, Tb0, Tb1, Tb2, Tb3, Tb4, Tb5, K0, K1, K2, K3, K4, K5, K6, K7, K8, K9, K10, K11, K12, K13, K14, K15, K16, K17, K18, K19, K20, K21, K22, K23⟩, ⟨CB, Y6, Y7, Y8, Y9, Y10, Y11, Y18, Y19, Y20, Y21, Y22, Y23⟩, #Hlev⟩, ⟨⟨%f0, Hz⟩, ⟨%f1, Hr⟩, ⟨%f2, Ha⟩⟩, Ho, ⟨%d0, %g0, %hg0, X⟩, ⟨%d1, %g1, %hg1, HG⟩, ⟨%d2, %g2, %hg2, Hout⟩⟩, Hk⟩
  have hx : g0 = xstg m ρ c := by rw [hg0]; unfold Dat.before; rw [if_pos (fetch0_0 t0_0)]; rfl
  subst hx
  have hg : g1 = gstg m ρ c := by rw [hg1]; unfold Dat.before; rw [if_pos (fetch0_1 t0_0)]; rfl
  subst hg
  unfold Dat.owesAt Pipeline.owesWithin
  icases Ho with ⟨%W, %hW, HO⟩
  rw [show (dats m ρ 0 c).owed t0_0.castSucc = tal ((dues c).drop 0) from rfl]
  -- the scratch buffers, slot by slot
  icases (Entails.of_eq (zs_split c f0)) $$ Hz with ⟨S00, S01, S02, S10, S11, S12⟩
  icases (Entails.of_eq (zr_split c f1)) $$ Hr with ⟨R00, R01, R02, R10, R11, R12⟩
  icases (Entails.of_eq (q_split c f2)) $$ Ha with ⟨⟨A0, A1⟩, ⟨Q00, Q10⟩, ⟨Q01, Q11⟩, ⟨Q02, Q12⟩⟩
  ihave T00 := (XT_mk c (zp (0 + 1) c) (xn 0 0 0)) $$ [P0 P6 Y6 K0 K6]
  · isplitl [P0]; · iexact P0
    isplitl [P6]; · iexact P6
    isplitl [Y6]; · iexact Y6
    isplitl [K0]; · iexact K0
    iexact K6
  ihave U00 := (XT_mk c (xyp 0 c) (xn 2 0 0)) $$ [P12 P18 Y18 K12 K18]
  · isplitl [P12]; · iexact P12
    isplitl [P18]; · iexact P18
    isplitl [Y18]; · iexact Y18
    isplitl [K12]; · iexact K12
    iexact K18
  ihave T01 := (XT_mk c (zp (1 + 1) c) (xn 0 0 1)) $$ [P1 P7 Y7 K1 K7]
  · isplitl [P1]; · iexact P1
    isplitl [P7]; · iexact P7
    isplitl [Y7]; · iexact Y7
    isplitl [K1]; · iexact K1
    iexact K7
  ihave U01 := (XT_mk c (xyp 1 c) (xn 2 0 1)) $$ [P13 P19 Y19 K13 K19]
  · isplitl [P13]; · iexact P13
    isplitl [P19]; · iexact P19
    isplitl [Y19]; · iexact Y19
    isplitl [K13]; · iexact K13
    iexact K19
  ihave T02 := (XT_mk c (zp (2 + 1) c) (xn 0 0 2)) $$ [P2 P8 Y8 K2 K8]
  · isplitl [P2]; · iexact P2
    isplitl [P8]; · iexact P8
    isplitl [Y8]; · iexact Y8
    isplitl [K2]; · iexact K2
    iexact K8
  ihave U02 := (XT_mk c (xyp 2 c) (xn 2 0 2)) $$ [P14 P20 Y20 K14 K20]
  · isplitl [P14]; · iexact P14
    isplitl [P20]; · iexact P20
    isplitl [Y20]; · iexact Y20
    isplitl [K14]; · iexact K14
    iexact K20
  ihave T10 := (XT_mk c (zp (0 + 1) c) (xn 0 1 0)) $$ [P3 P9 Y9 K3 K9]
  · isplitl [P3]; · iexact P3
    isplitl [P9]; · iexact P9
    isplitl [Y9]; · iexact Y9
    isplitl [K3]; · iexact K3
    iexact K9
  ihave U10 := (XT_mk c (xyp 0 c) (xn 2 1 0)) $$ [P15 P21 Y21 K15 K21]
  · isplitl [P15]; · iexact P15
    isplitl [P21]; · iexact P21
    isplitl [Y21]; · iexact Y21
    isplitl [K15]; · iexact K15
    iexact K21
  ihave T11 := (XT_mk c (zp (1 + 1) c) (xn 0 1 1)) $$ [P4 P10 Y10 K4 K10]
  · isplitl [P4]; · iexact P4
    isplitl [P10]; · iexact P10
    isplitl [Y10]; · iexact Y10
    isplitl [K4]; · iexact K4
    iexact K10
  ihave U11 := (XT_mk c (xyp 1 c) (xn 2 1 1)) $$ [P16 P22 Y22 K16 K22]
  · isplitl [P16]; · iexact P16
    isplitl [P22]; · iexact P22
    isplitl [Y22]; · iexact Y22
    isplitl [K16]; · iexact K16
    iexact K22
  ihave T12 := (XT_mk c (zp (2 + 1) c) (xn 0 1 2)) $$ [P5 P11 Y11 K5 K11]
  · isplitl [P5]; · iexact P5
    isplitl [P11]; · iexact P11
    isplitl [Y11]; · iexact Y11
    isplitl [K5]; · iexact K5
    iexact K11
  ihave U12 := (XT_mk c (xyp 2 c) (xn 2 1 2)) $$ [P17 P23 Y23 K17 K23]
  · isplitl [P17]; · iexact P17
    isplitl [P23]; · iexact P23
    isplitl [Y23]; · iexact Y23
    isplitl [K17]; · iexact K17
    iexact K23
  ihave Pb0 := (barPay_z c 0 (by decide) 0 rfl) $$ [R00 R10]
  · isplitl [R00]; · iexists _; iexact R00
    iexists _; iexact R10
  ihave Pb1 := (barPay_z c 1 (by decide) 1 rfl) $$ [R01 R11]
  · isplitl [R01]; · iexists _; iexact R01
    iexists _; iexact R11
  ihave Pb2 := (barPay_z c 2 (by decide) 2 rfl) $$ [R02 R12]
  · isplitl [R02]; · iexists _; iexact R02
    iexists _; iexact R12
  ihave Pb3 := (barPay_q c 0 (by decide) 3 rfl) $$ [Q00 Q10]
  · isplitl [Q00]; · iexists _; iexact Q00
    iexists _; iexact Q10
  ihave Pb4 := (barPay_q c 1 (by decide) 4 rfl) $$ [Q01 Q11]
  · isplitl [Q01]; · iexists _; iexact Q01
    iexists _; iexact Q11
  ihave Pb5 := (barPay_q c 2 (by decide) 5 rfl) $$ [Q02 Q12]
  · isplitl [Q02]; · iexists _; iexact Q02
    iexists _; iexact Q12
  rw [wp_bind]
  iapply (wp_part25 m ρ K c g2 _) $$ [HO Tb2 Pb2 Tb1 Pb1 Tb0 Pb0 Tb3 Pb3 Tb4 Pb4 Tb5 Pb5 CB AB X S00 T00 S01 T01 S02 T02 S10 T10 S11 T11 S12 T12 A0 U00 U01 U02 A1 U10 U11 U12 HG Hout]
  · isplitr; · iexact HR
    isplitr; · iexact Hlev
    isplitl [HO]; · unfold owesS; iexists W; iexact HO
    isplitl [Tb2]; · iexact Tb2
    isplitl [Pb2]; · iexact Pb2
    isplitl [Tb1]; · iexact Tb1
    isplitl [Pb1]; · iexact Pb1
    isplitl [Tb0]; · iexact Tb0
    isplitl [Pb0]; · iexact Pb0
    isplitl [Tb3]; · iexact Tb3
    isplitl [Pb3]; · iexact Pb3
    isplitl [Tb4]; · iexact Tb4
    isplitl [Pb4]; · iexact Pb4
    isplitl [Tb5]; · iexact Tb5
    isplitl [Pb5]; · iexact Pb5
    isplitl [CB]; · iexact CB
    isplitl [AB]; · iexact AB
    isplitl [X]; · unfold xPts; iexact X
    isplitl [S00]; · iexists _; iexact S00
    isplitl [T00]; · iexact T00
    isplitl [S01]; · iexists _; iexact S01
    isplitl [T01]; · iexact T01
    isplitl [S02]; · iexists _; iexact S02
    isplitl [T02]; · iexact T02
    isplitl [S10]; · iexists _; iexact S10
    isplitl [T10]; · iexact T10
    isplitl [S11]; · iexists _; iexact S11
    isplitl [T11]; · iexact T11
    isplitl [S12]; · iexists _; iexact S12
    isplitl [T12]; · iexact T12
    isplitl [A0]; · iexists _; iexact A0
    isplitl [U00]; · iexact U00
    isplitl [U01]; · iexact U01
    isplitl [U02]; · iexact U02
    isplitl [A1]; · iexists _; iexact A1
    isplitl [U10]; · iexact U10
    isplitl [U11]; · iexact U11
    isplitl [U12]; · iexact U12
    isplitl [HG]; · unfold gPts; iexact HG
    unfold oPts; iexact Hout
  iintro ⟨ZB, Z000, S00, Z100, Z001, S01, Z101, Z002, S02, Z102, R00, R01, R02, Z010, S10, Z110, Z011, S11, Z111, Z012, S12, Z112, X, R10, R11, R12, Z200, Z300, Z201, Z301, Z202, Z302, Z210, Z310, Z211, Z311, Z212, HO, Z312, HA, HG, Hout⟩
  -- the last column quarter
  simp only [Prog.lift, Prog.bind_op, Prog.bind_ret, Prog.pure_eq_ret]
  iapply (wp_lda m ρ c) $$ HA; iintro HA
  iapply (wp_ldg m ρ c) $$ HG; iintro HG
  iapply (wp_sto c _ _) $$ Hout; iintro Hout
  rw [wp_ret]; imodintro
  iapply Hk
  unfold bodyPost Φ₁ scr Dat.owesAt Pipeline.owesWithin
  rw [zeros_eq, show (dats m ρ 0 c).owed t0_0.succ = tal ((dues c).drop 18) from rfl]
  isplitl [S00 S01 S02 S10 S11 S12 R00 R01 R02 R10 R11 R12 HA Z000 Z001 Z002 Z010 Z011 Z012 Z100 Z101 Z102 Z110 Z111 Z112 Z200 Z201 Z202 Z210 Z211 Z212 Z300 Z301 Z302 Z310 Z311 Z312 ZB]
  · isplitl [S00 S01 S02 S10 S11 S12 R00 R01 R02 R10 R11 R12 HA]
    · isplitl [S00 S01 S02 S10 S11 S12]
      · iexists (ZS m ρ c)
        iapply (Entails.of_eq (zs_split c (ZS m ρ c)).symm)
        isplitl [S00]; · iexact S00
        isplitl [S01]; · iexact S01
        isplitl [S02]; · iexact S02
        isplitl [S10]; · iexact S10
        isplitl [S11]; · iexact S11
        iexact S12
      isplitl [R00 R01 R02 R10 R11 R12]
      · iexists (ZR m ρ c)
        iapply (Entails.of_eq (zr_split c (ZR m ρ c)).symm)
        isplitl [R00]; · iexact R00
        isplitl [R01]; · iexact R01
        isplitl [R02]; · iexact R02
        isplitl [R10]; · iexact R10
        isplitl [R11]; · iexact R11
        iexact R12
      · iexists (QA m ρ c); unfold aPts; iexact HA
    isplitl [Z000 Z001 Z002 Z010 Z011 Z012 Z100 Z101 Z102 Z110 Z111 Z112 Z200 Z201 Z202 Z210 Z211 Z212 Z300 Z301 Z302 Z310 Z311 Z312]
    · isplitl [Z000]; · iexact Z000
      isplitl [Z001]; · iexact Z001
      isplitl [Z002]; · iexact Z002
      isplitl [Z010]; · iexact Z010
      isplitl [Z011]; · iexact Z011
      isplitl [Z012]; · iexact Z012
      isplitl [Z100]; · iexact Z100
      isplitl [Z101]; · iexact Z101
      isplitl [Z102]; · iexact Z102
      isplitl [Z110]; · iexact Z110
      isplitl [Z111]; · iexact Z111
      isplitl [Z112]; · iexact Z112
      isplitl [Z200]; · iexact Z200
      isplitl [Z201]; · iexact Z201
      isplitl [Z202]; · iexact Z202
      isplitl [Z210]; · iexact Z210
      isplitl [Z211]; · iexact Z211
      isplitl [Z212]; · iexact Z212
      isplitl [Z300]; · iexact Z300
      isplitl [Z301]; · iexact Z301
      isplitl [Z302]; · iexact Z302
      isplitl [Z310]; · iexact Z310
      isplitl [Z311]; · iexact Z311
      iexact Z312
    iexact ZB
  isplitl [HO]
  · unfold owesS
    icases HO with ⟨%W', HO⟩
    iexists W'
    isplitr; · ipureintro; exact fun _ _ => Or.inl trivial
    iexact HO
  isplitl [X]
  · iexists _; isplitr; · (ipureintro; rfl)
    unfold xPts; iexact X
  isplitl [HG]
  · iexists _; isplitr; · (ipureintro; rfl)
    unfold gPts; iexact HG
  ihave Hout := (Entails.of_eq (congrArg (fun f => oPts c f) (out_eq m ρ c g2))) $$ Hout
  iexists _; isplitr; · (ipureintro; rfl)
  unfold oPts; iexact Hout

def bodyPre' (c : Dev nD) : sProp 𝕄 :=
  iprop(Φ₀ m ρ c ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))

set_option maxRecDepth 65536 in
/-- What the pipeline asks of the body. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _) (Memref.whole cc0_stg2_0) (Memref.isWhole_whole _)
      (Memref.whole cc0_scratch0) (Memref.isWhole_whole _) (Memref.whole cc0_scratch1) (Memref.isWhole_whole _) (Memref.whole cc0_scratch2) (Memref.isWhole_whole _)
      cc0_scratch3 cc0_scratch4 cc0_scratch5 cc0_scratch6) (fun _ => bodyPost m ρ c)
  unfold bodyPre' Φ₀ start
  iintro ⟨⟨⟨⟨%K, Hg⟩, Hc, Hl⟩, Hscr⟩, Ho, Hx, Hgm, Hout⟩
  iapply (sound_body m ρ K c fun _ => bodyPost m ρ c)
  unfold bodyPre
  isplitr []
  · isplitl [Hg Hc Hl]
    · isplitl [Hg]; · iexact Hg
      isplitl [Hc]; · iexact Hc
      iexact Hl
    isplitl [Hscr]; · iexact Hscr
    isplitl [Ho]; · iexact Ho
    isplitl [Hx]; · iexact Hx
    isplitl [Hgm]; · iexact Hgm
    iexact Hout
  · iintro H; iexact H

end Body

end Cert.KernelIdealRun

end
-- ==== Proof.KernelIdealRun.Launch.lean ====
/-
# The launch: the cells funded, the tokens dealt, the run

The launch gives every device its cells at round zero and the tokens of its own cells' duties. The tokens go to the devices
that pay the duties, the launch credit pays for what each device is owed, and the run of the whole program follows.
-/
module

public import proofs.«01_k».proof.Proof.KernelIdealRun.Start
public import Idealize.ShloMosaic.Lib.Pipeline.Launch
public import Idealize.ShloMosaic.Lib.Pipeline.CollectiveSegs
public import Idealize.ShloMosaic.Adequacy

@[expose] public section

noncomputable section

namespace Cert.KernelIdealRun

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells and their tokens -/

/-- The kernel's own semaphores: the twenty-four transfer semaphores. -/
abbrev osem : Fin 24 → SemLoc sig := fun n => .dma (dsem n.val)
theorem ownSemFacts : Pipeline.OwnSemFacts cfg0.spec osem := by decide

theorem share_eq (c : Dev nD) (w : Fin cfg0.W) : (dats m ρ 0 c).share w = fullShare := by unfold Dat.share; split <;> rfl

omit [FloatOps F] in
theorem csem_injective : ∀ k k' : Fin 25, csem k = csem k' → k = k' := by decide
omit [FloatOps F] in
theorem kcell_injective : Function.Injective (kcell : Dev nD × Fin 25 → GSem nD τ sig) := by
  rintro ⟨c, k⟩ ⟨c', k'⟩ h
  have h1 : c = c' := congrArg (fun g : GSem nD τ sig => g.1.1) h
  have h2 : k = k' := csem_injective k k' (congrArg Prod.snd h)
  rw [h1, h2]
/-- All devices' cells. -/
def allCells : Finset (GSem nD τ sig) := Finset.univ.map ⟨kcell, kcell_injective⟩

/-- A token's semaphore and duty, whatever the device. -/
def tokKey (k : Fin 30) : SemLoc sig × Fin 6 :=
  if k.val < 6 then (.reg barS, ⟨k.val % 6, Nat.mod_lt _ (by decide)⟩) else (.dma (dsem (k.val - 6)), 0)
omit [FloatOps F] in
theorem tokKey_injective : ∀ k k' : Fin 30, tokKey k = tokKey k' → k = k' := by decide
omit [FloatOps F] in
theorem tokOf_key (c : Dev nD) (k : Fin 30) : tokOf (c, k) = (((c : Thread nD τ), (tokKey k).1), 0, (tokKey k).2) := by
  unfold tokOf tokKey; split <;> rfl
omit [FloatOps F] in
theorem tokOf_injective : Function.Injective (tokOf : Dev nD × Fin 30 → GSem nD τ sig × ℕ × Fin 6) := by
  rintro ⟨c, k⟩ ⟨c', k'⟩ h
  rw [tokOf_key, tokOf_key] at h
  have h1 : c = c' := congrArg (fun x : GSem nD τ sig × ℕ × Fin 6 => x.1.1.1) h
  have h2 : k = k' := tokKey_injective k k' (Prod.ext (congrArg (fun x : GSem nD τ sig × ℕ × Fin 6 => x.1.2) h) (congrArg (fun x : GSem nD τ sig × ℕ × Fin 6 => x.2.2) h))
  rw [h1, h2]
/-- All the duties' tokens. -/
def allToks : Finset (GSem nD τ sig × ℕ × Fin 6) := Finset.univ.map ⟨tokOf, tokOf_injective⟩

/-- What the launch starts with: the pipeline's own rounds, and every cell at round zero with its duties' tokens. -/
def u₀ : UU := (initOf (Pipeline.cells cfgs cellOf_inj) (Pipeline.launchToks cfgs cellOf_inj), initOf allCells allToks)

/-- The tokens of a device's own cells. -/
def ownToks (c : Dev nD) : sProp 𝕄 := bigSep Finset.univ fun k : Fin 30 => tokAt c k

/-- What the launch gives device `c`. -/
def G (c : Dev nD) : sProp 𝕄 :=
  iprop((bigSep Finset.univ fun k : Fin 25 => roundState ER (Rd m ρ) (kcell (c, k)) 0)
    ∗ (poss c ∗ bigSep Finset.univ fun k : Fin 25 => reached ER (kcell (c, k)) 0) ∗ ownToks c)
/-- What a device's body starts from. -/
def G' (c : Dev nD) : sProp 𝕄 := iprop(∃ K, ghost m ρ K c)

theorem fund_cells : BI.own (ER (initOf allCells allToks)) ⊢ (|==> bigSep Finset.univ (G m ρ) : sProp 𝕄) := by
  have hX (Φ : GSem nD τ sig → sProp 𝕄) : bigSep allCells Φ = bigSep Finset.univ fun c : Dev nD => bigSep Finset.univ fun k : Fin 25 => Φ (kcell (c, k)) := by
    unfold allCells; rw [bigSep_map, bigSep_univ_prod]; rfl
  have hT : bigSep allToks (fun x => (dutyTok ER x.1 x.2.1 x.2.2 : sProp 𝕄)) = bigSep Finset.univ fun c : Dev nD => ownToks c := by
    unfold allToks; rw [bigSep_map, bigSep_univ_prod]; rfl
  iintro HX
  imod (Rounds.fund ER (Rd m ρ) allCells allToks) $$ HX with ⟨Hst, Hr, Hat, Htok⟩
  imodintro
  ihave Hst' := (Entails.of_eq (hX fun g => roundState ER (Rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G poss; simp only [bigSep_sep']
  isplitl [Hst']; · iexact Hst'
  isplitl [Hat' Hr']
  · isplitl [Hat'] <;> iassumption
  iexact Htok'

/-! ## The semaphores at zero become the cells -/

omit [FloatOps F] in
theorem ownSems0_eq (c : Dev nD) : (Pipeline.ownSems0 (Ix := Unit) (Name := ℕ) (U := UU) (Lvl := ℕ) (Val := Elt F) (τ := τ) osem c : sProp 𝕄)
    = bigSep Finset.univ fun n : Fin 24 => semVal (dcell c n.val) 0 := rfl
omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem kzeros_eq (c : Dev nD) : (bigSep Finset.univ fun k : Fin 25 => semVal (kcell (c, k)) 0 : sProp 𝕄)
    = iprop(semVal (barCell c) 0 ∗ semVal (dcell c 0) 0 ∗ semVal (dcell c 1) 0 ∗ semVal (dcell c 2) 0 ∗ semVal (dcell c 3) 0 ∗ semVal (dcell c 4) 0 ∗ semVal (dcell c 5) 0 ∗ semVal (dcell c 6) 0 ∗ semVal (dcell c 7) 0 ∗ semVal (dcell c 8) 0 ∗ semVal (dcell c 9) 0 ∗ semVal (dcell c 10) 0 ∗ semVal (dcell c 11) 0 ∗ semVal (dcell c 12) 0 ∗ semVal (dcell c 13) 0 ∗ semVal (dcell c 14) 0 ∗ semVal (dcell c 15) 0 ∗ semVal (dcell c 16) 0 ∗ semVal (dcell c 17) 0 ∗ semVal (dcell c 18) 0 ∗ semVal (dcell c 19) 0 ∗ semVal (dcell c 20) 0 ∗ semVal (dcell c 21) 0 ∗ semVal (dcell c 22) 0 ∗ semVal (dcell c 23) 0) := by
  rw [bigSep_univ_eq_bigSepL [0, 1, 2, 3, 4, 5, 6, 7, 8, 9, 10, 11, 12, 13, 14, 15, 16, 17, 18, 19, 20, 21, 22, 23, 24] (by decide) (by decide)]
  rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 25 => semVal (kcell (c, k)) 0 : sProp 𝕄) := by
  rw [ownSems0_eq, unscopedSems0_eq, zeros_eq, kzeros_eq]
  iintro ⟨⟨Z0, Z1, Z2, Z3, Z4, Z5, Z6, Z7, Z8, Z9, Z10, Z11, Z12, Z13, Z14, Z15, Z16, Z17, Z18, Z19, Z20, Z21, Z22, Z23⟩, HB⟩
  isplitl [HB]; · iexact HB
  isplitl [Z0]; · iexact Z0
  isplitl [Z1]; · iexact Z1
  isplitl [Z2]; · iexact Z2
  isplitl [Z3]; · iexact Z3
  isplitl [Z4]; · iexact Z4
  isplitl [Z5]; · iexact Z5
  isplitl [Z6]; · iexact Z6
  isplitl [Z7]; · iexact Z7
  isplitl [Z8]; · iexact Z8
  isplitl [Z9]; · iexact Z9
  isplitl [Z10]; · iexact Z10
  isplitl [Z11]; · iexact Z11
  isplitl [Z12]; · iexact Z12
  isplitl [Z13]; · iexact Z13
  isplitl [Z14]; · iexact Z14
  isplitl [Z15]; · iexact Z15
  isplitl [Z16]; · iexact Z16
  isplitl [Z17]; · iexact Z17
  isplitl [Z18]; · iexact Z18
  isplitl [Z19]; · iexact Z19
  isplitl [Z20]; · iexact Z20
  isplitl [Z21]; · iexact Z21
  isplitl [Z22]; · iexact Z22
  iexact Z23

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (Rd m ρ) κ (kcell (c, k))))
          ∗ (poss c ∗ bigSep Finset.univ fun k : Fin 25 => reached ER (kcell (c, k)) 0) ∗ ownToks c) := by
  unfold G
  iintro ⟨Hos, Hus, Hst, Hat, Htok⟩
  ihave Hv := (sems0_eq (F := F) c) $$ [Hos Hus]
  · isplitl [Hos] <;> iassumption
  imod (show iprop((bigSep Finset.univ fun k : Fin 25 => semVal (kcell (c, k)) 0) ∗ bigSep Finset.univ fun k : Fin 25 => roundState ER (Rd m ρ) (kcell (c, k)) 0)
      ⊢ (|={Set.univ}=> bigSep Finset.univ fun k => iprop(∃ κ : ℕ, cellInv ER (Rd m ρ) κ (kcell (c, k))) : sProp 𝕄) from by
        rw [← bigSep_sep']
        exact (bigSep_mono fun k _ => (Rounds.body_intro ER (Rd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## The tokens go to the payers -/

omit [FloatOps F] in
theorem bigSep_exchange {α β : Type} [Fintype α] [Fintype β] (Φ : α → β → sProp 𝕄) :
    (bigSep Finset.univ fun a => bigSep Finset.univ fun b => Φ a b) = bigSep Finset.univ fun b => bigSep Finset.univ fun a => Φ a b := by
  rw [← bigSep_univ_prod (fun p : α × β => Φ p.1 p.2), bigSep_univ_equiv (Equiv.prodComm β α), bigSep_univ_prod]
  rfl

omit [FloatOps F] in
/-- The tokens of the devices' own cells are the tokens the devices pay with. -/
theorem toks_dealt : (bigSep Finset.univ fun c : Dev nD => (ownToks c : sProp 𝕄)) = bigSep Finset.univ fun c : Dev nD => payToks c := by
  unfold ownToks payToks
  rw [bigSep_exchange (fun (c : Dev nD) (k : Fin 30) => (tokAt c k : sProp 𝕄)), bigSep_exchange (fun (c : Dev nD) (k : Fin 30) => (tokAt (payee k c) k : sProp 𝕄))]
  exact bigSep_congr fun k _ => bigSep_univ_equiv (payee k) (fun c => (tokAt c k : sProp 𝕄))

omit [FloatOps F] in
theorem bigSep_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (Rd m ρ) κ (kcell (c, k))))
          ∗ (poss c ∗ bigSep Finset.univ fun k : Fin 25 => reached ER (kcell (c, k)) 0) ∗ ownToks c) : sProp 𝕄)
      ⊢ bigSep Finset.univ (G' m ρ) := by
  rw [bigSep_sep', bigSep_sep', ← bigSep_univ_prod (fun ck : Dev nD × Fin 25 => iprop(∃ κ : ℕ, cellInv ER (Rd m ρ) κ (kcell ck))),
    bigSep_sep', ← bigSep_univ_prod (fun ck : Dev nD × Fin 25 => (reached ER (kcell ck) 0 : sProp 𝕄)), toks_dealt]
  iintro ⟨HI, ⟨Hat, #HR⟩, Htok⟩
  ihave HK := (BI.bigSep_exists_pi Finset.univ (fun (ck : Dev nD × Fin 25) (κ : ℕ) => (cellInv ER (Rd m ρ) κ (kcell ck) : sProp 𝕄))) $$ HI
  icases HK with ⟨%K, #HI⟩
  iapply (bigSep_with (R := records m ρ K) (Φ := fun c => iprop(poss c ∗ payToks c)) fun c _ => by
    unfold G' ghost
    iintro ⟨H1, H2⟩
    iexists K
    isplitl [H1] <;> iassumption)
  isplitr
  · unfold records; isplitl; · iexact HI
    iexact HR
  · rw [bigSep_sep']
    isplitl [Hat] <;> iassumption

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

omit [FloatOps F] in
/-- One debt of every device, to the device a permutation names: every device is owed it once. -/
theorem owed_one (e : Dev nD ≃ Dev nD) (sm : SemLoc sig) (n : ℕ) (c : Dev nD) :
    (Pipeline.launchCred (fun d => tallyAt ((e d : Thread nD τ), sm) () n) c : sProp 𝕄) = cred (tallyAt ((c : Thread nD τ), sm) () n) := by
  have hs : (∑ d : Dev nD, (tallyAt ((e d : Thread nD τ), sm) () n : CellTallies nD τ sig Unit)) = ∑ d : Dev nD, tallyAt ((d : Thread nD τ), sm) () n :=
    Equiv.sum_comp e fun d => (tallyAt ((d : Thread nD τ), sm) () n : CellTallies nD τ sig Unit)
  have hT : ∀ (d : Dev nD) (g : GSem nD τ sig), (tallyAt ((d : Thread nD τ), sm) () n : CellTallies nD τ sig Unit) g ≠ 0 → g.1 = (d.tc : Thread nD τ) := fun d g h => by
    by_contra hg
    exact h (tallyAt_ne_cell (fun e => hg (congrArg Prod.fst e)) () n)
  exact Pipeline.launchCred_of_sum (fun d => tallyAt ((e d : Thread nD τ), sm) () n) (fun d => tallyAt ((d : Thread nD τ), sm) () n) hs hT c

/-- The debts of device `d` in a list of debts given by permutations. -/
def debtsAt (l : List ((Dev nD ≃ Dev nD) × SemLoc sig × ℕ)) (d : Dev nD) : List (GSem nD τ sig × ℕ) :=
  l.map fun p => (((p.1 d : Thread nD τ), p.2.1), p.2.2)
/-- The credit of a list of debts. -/
def credits (c : Dev nD) : List ((Dev nD ≃ Dev nD) × SemLoc sig × ℕ) → sProp 𝕄
  | [] => iprop(emp)
  | p :: l => iprop(credits c l ∗ cred (tallyAt ((c : Thread nD τ), p.2.1) () p.2.2))

omit [FloatOps F] in
theorem tal_debtsAt (p : (Dev nD ≃ Dev nD) × SemLoc sig × ℕ) (l : List ((Dev nD ≃ Dev nD) × SemLoc sig × ℕ)) (d : Dev nD) :
    tal (debtsAt (p :: l) d) = tal (debtsAt l d) + tallyAt ((p.1 d : Thread nD τ), p.2.1) () p.2.2 := rfl

omit [FloatOps F] in
/-- A list of such debts. -/
theorem owed_list (c : Dev nD) (l : List ((Dev nD ≃ Dev nD) × SemLoc sig × ℕ)) :
    (Pipeline.launchCred (fun d => tal (debtsAt l d)) c : sProp 𝕄) = credits c l := by
  induction l with
  | nil => exact Pipeline.launchCred_zero c
  | cons p l ih =>
    simp only [tal_debtsAt]
    rw [Pipeline.launchCred_add, ih, owed_one]
    rfl

/-- All debts, as permutations. -/
def debts : List ((Dev nD ≃ Dev nD) × SemLoc sig × ℕ) :=
  [(zEquiv 1 3 rfl, .reg barS, 1), (zEquiv 2 2 rfl, .reg barS, 1), (zEquiv 3 1 rfl, .reg barS, 1),
   (xyEquiv 0 (by decide), .reg barS, 1), (xyEquiv 1 (by decide), .reg barS, 1), (xyEquiv 2 (by decide), .reg barS, 1),
   (zEquiv 1 3 rfl, .dma (dsem (xn 1 0 0)), N), (zEquiv 2 2 rfl, .dma (dsem (xn 1 0 1)), N), (zEquiv 3 1 rfl, .dma (dsem (xn 1 0 2)), N),
   (zEquiv 1 3 rfl, .dma (dsem (xn 1 1 0)), N), (zEquiv 2 2 rfl, .dma (dsem (xn 1 1 1)), N), (zEquiv 3 1 rfl, .dma (dsem (xn 1 1 2)), N),
   (xyEquiv 0 (by decide), .dma (dsem (xn 3 0 0)), N), (xyEquiv 1 (by decide), .dma (dsem (xn 3 0 1)), N), (xyEquiv 2 (by decide), .dma (dsem (xn 3 0 2)), N),
   (xyEquiv 0 (by decide), .dma (dsem (xn 3 1 0)), N), (xyEquiv 1 (by decide), .dma (dsem (xn 3 1 1)), N), (xyEquiv 2 (by decide), .dma (dsem (xn 3 1 2)), N)]

omit [FloatOps F] in
theorem dues_eq (d : Dev nD) : O₀ d = tal (debtsAt debts d) := by
  unfold O₀
  refine congrArg tal ?_
  simp only [debts, debtsAt, List.map_cons, List.map_nil, dues, duesZ, duesQ, List.cons_append, List.nil_append]
  rfl

omit [FloatOps F] in
theorem creds_intro (c : Dev nD) : (Pipeline.launchCred O₀ c : sProp 𝕄) ⊢ creds c := by
  rw [show (O₀ : Dev nD → CellTallies nD τ sig Unit) = fun d : Dev nD => tal (debtsAt debts d) from funext dues_eq, owed_list]
  unfold creds
  rw [creds_eq]
  unfold debts
  simp only [credits]
  iintro ⟨⟨⟨⟨⟨⟨⟨⟨⟨⟨⟨⟨⟨⟨⟨⟨⟨⟨-, Y23⟩, Y22⟩, Y21⟩, Y20⟩, Y19⟩, Y18⟩, Y11⟩, Y10⟩, Y9⟩, Y8⟩, Y7⟩, Y6⟩, B5⟩, B4⟩, B3⟩, B2⟩, B1⟩, B0⟩
  isplitl [B0 B1 B2 B3 B4 B5]
  · rw [show (tallyAt (barCell c) () 6 : CellTallies nD τ sig Unit) = tallyAt (barCell c) () 1 + (tallyAt (barCell c) () 1 + (tallyAt (barCell c) () 1
        + (tallyAt (barCell c) () 1 + (tallyAt (barCell c) () 1 + tallyAt (barCell c) () 1)))) from by simp only [tallyAt_add]]
    iapply (cred_add _ _).2; isplitl [B0]; · iexact B0
    iapply (cred_add _ _).2; isplitl [B1]; · iexact B1
    iapply (cred_add _ _).2; isplitl [B2]; · iexact B2
    iapply (cred_add _ _).2; isplitl [B3]; · iexact B3
    iapply (cred_add _ _).2; isplitl [B4]; · iexact B4
    iexact B5
  isplitl [Y6]; · iexact Y6
  isplitl [Y7]; · iexact Y7
  isplitl [Y8]; · iexact Y8
  isplitl [Y9]; · iexact Y9
  isplitl [Y10]; · iexact Y10
  isplitl [Y11]; · iexact Y11
  isplitl [Y18]; · iexact Y18
  isplitl [Y19]; · iexact Y19
  isplitl [Y20]; · iexact Y20
  isplitl [Y21]; · iexact Y21
  isplitl [Y22]; · iexact Y22
  iexact Y23

/-! ## The launch's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds_intro (F := F) c) $$ Hcr
  imodintro
  unfold start G'
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scr
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁ scr
  iintro ⟨Hr, Hz, HzB⟩
  isplitl [HzB]; · iexact HzB
  isplitl [Hz]; · iexact Hz
  iexact Hr

omit [FloatOps F] in
theorem dues_pos (c : Dev nD) : ∀ p ∈ dues c, p.1.1.2 = .tc ∧ 0 < lvs p.1.2 := by
  intro p hp
  simp only [dues, duesZ, duesQ, List.cons_append, List.nil_append, List.mem_cons, List.not_mem_nil, or_false] at hp
  rcases hp with h | h | h | h | h | h | h | h | h | h | h | h | h | h | h | h | h | h <;> subst h <;> exact ⟨rfl, by dsimp only; decide⟩

omit [FloatOps F] in
theorem stage_level (w : Fin cfg0.W) (s : Fin (cfg0.win w).nbuf) : lvs (.dma ((cfg0.win w).sem s)) = 0 := by
  fin_cases w <;> fin_cases s <;> decide

theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait_tal c _ (dues c) fun p hp => ⟨(dues_pos c p hp).1, by rw [stage_level w s]; exact (dues_pos c p hp).2⟩
    · exact mayWait_tal c _ [] fun p hp => absurd hp List.not_mem_nil

/-! ## The run -/

/-- What a window's array holds at the end. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with every counter at zero, for any float values, every weakly fair run of the program on the sixteen
    devices ends, with every window's array at its final contents and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_cells m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The array of partial sums ends as it was. -/
theorem finalA_x (c : Dev nD) : finalA m ρ c (0 : Fin 3) = m ((c : Thread nD τ).loc main_arg0) :=
  (dats (F := F) m ρ 0 c).arrAt_in (0 : Fin 3) rfl _
/-- The array of gamma ends as it was. -/
theorem finalA_g (c : Dev nD) : finalA m ρ c (1 : Fin 3) = m ((c : Thread nD τ).loc main_arg1) :=
  (dats (F := F) m ρ 0 c).arrAt_in (1 : Fin 3) rfl _

end Cert.KernelIdealRun

end
-- ==== Proof.Value.Blocks.lean ====
/-
# Which block a device has

The partial sums are cut in four along their first axis, the result in four along its rows, each by the device's place on
the ring `z`. The lemmas say where an index of a device's block lies in the whole array.
-/
module

public import Idealize.ShloMosaic.Lib.Layout
public import Idealize.ShloMosaic.Lib.PointwiseCore

@[expose] public section

noncomputable section

namespace Cert.Value

open Idealize.ShloMosaic

/-- The place on the ring is the last coordinate of the mesh, for the partial sums, -/
theorem place3 (c : Fin 16) (h) :
    ((Layout.meshBlock [2, 2, 4] (![[2], [], []] : Fin 3 → List ℕ) c h) 0).val = c.val % 4
      ∧ ((Layout.meshBlock [2, 2, 4] (![[2], [], []] : Fin 3 → List ℕ) c h) 1).val = 0
      ∧ ((Layout.meshBlock [2, 2, 4] (![[2], [], []] : Fin 3 → List ℕ) c h) 2).val = 0 := by
  simp only [Layout.meshBlock_val]
  revert c
  decide

/-- and for the result. -/
theorem place2 (c : Fin 16) (h) :
    ((Layout.meshBlock [2, 2, 4] (![[2], []] : Fin 2 → List ℕ) c h) 0).val = c.val % 4
      ∧ ((Layout.meshBlock [2, 2, 4] (![[2], []] : Fin 2 → List ℕ) c h) 1).val = 0 := by
  simp only [Layout.meshBlock_val]
  revert c
  decide

/-- An index of block `z` of the partial sums, in the whole array. -/
theorem part_idx {k : Fin 3 → ℕ} (h : Layout.TilesN ⟨3, ![1, 2048, 512]⟩ ⟨3, ![4, 2048, 512]⟩ k) (j : (b : Fin 3) → Fin (k b)) (z : Fin 4)
    (h0 : (j 0).val = z.val) (h1 : (j 1).val = 0) (h2 : (j 2).val = 0) (r : Fin 2048) (l : Fin 512) :
    h.idx j (ix3 0 r l) = ix3 z r l := by
  funext a
  apply Fin.ext
  fin_cases a
  · show (j 0).val * 1 + 0 = z.val; omega
  · show (j 1).val * 2048 + r.val = r.val; omega
  · show (j 2).val * 512 + l.val = l.val; omega

/-- An index of block `z` of the result, in the whole array. -/
theorem result_idx {k : Fin 2 → ℕ} (h : Layout.TilesN ⟨2, ![512, 512]⟩ ⟨2, ![2048, 512]⟩ k) (j : (b : Fin 2) → Fin (k b)) (z : ℕ)
    (h0 : (j 0).val = z) (h1 : (j 1).val = 0) (r : Fin 512) (l : Fin 512) (hz : 512 * z + r.val < 2048) :
    h.idx j (ix2 r l) = ix2 ⟨512 * z + r.val, hz⟩ l := by
  funext a
  apply Fin.ext
  fin_cases a
  · show (j 0).val * 512 + r.val = 512 * z + r.val; omega
  · show (j 1).val * 512 + l.val = l.val; omega

end Cert.Value

end
-- ==== Proof.Value.Maths.lean ====
/-
# The mathematics of the normalised sum

`spec X G r l` is the reference's result at row `r` and column `l`, written over the extended reals: the four partial sums
are added, the sum is divided by the root of its row's mean square plus a small constant, and multiplied by gamma. The
kernel multiplies by a reciprocal root instead of dividing by a root, adds the partial sums in another order, and adds the
squares of a row in four parts; the lemmas here say that none of this changes the value, at finite or infinite entries.
-/
module

public import Idealize.ShloMosaic.Lib.PointwiseCore
public import Idealize.ShloMosaic.Lib.Pointwise.Tactic
public import Idealize.ShloMosaic.Lib.Pointwise.Sums
public import Idealize.ShloMosaic.Lib.Pointwise.Reduce
public import Idealize.ShloMosaic.PureOps.Ideal

@[expose] public section

noncomputable section

namespace Cert.Value

open Idealize.ShloMosaic

/-- The number of columns, as the programs' float word denotes it. -/
def cnt : EReal := Ideal.ofBits .f32 0x44000000#32
/-- The small constant, as the programs' float word denotes it. -/
def eps : EReal := Ideal.ofBits .f32 0x358637BD#32

/-- The sum of the four partial sums at a row and a column. -/
def tot (X : (⟨3, ![4, 2048, 512]⟩ : Shape).Idx → EReal) (r : Fin 2048) (l : Fin 512) : EReal := ∑ z : Fin 4, X (ix3 z r l)
/-- The mean square of a row plus the small constant. -/
def msq (X : (⟨3, ![4, 2048, 512]⟩ : Shape).Idx → EReal) (r : Fin 2048) : EReal :=
  Ideal.div (∑ l : Fin 512, tot X r l * tot X r l) cnt + eps
/-- The result at a row and a column. -/
def spec (X : (⟨3, ![4, 2048, 512]⟩ : Shape).Idx → EReal) (G : (⟨1, ![512]⟩ : Shape).Idx → EReal) (r : Fin 2048) (l : Fin 512) : EReal :=
  Ideal.div (tot X r l) (Ideal.sqrt (msq X r)) * G (ix1 l)

/-- Multiplying by the reciprocal root of a positive number is dividing by its root, infinite or not. -/
theorem mul_rsqrt (y t : EReal) (ht : 0 < t) : y * Ideal.rsqrt t = Ideal.div y (Ideal.sqrt t) := by
  unfold Ideal.div
  induction t with
  | bot => simp at ht
  | top => simp
  | coe r =>
    have hr : 0 < r := by exact_mod_cast ht
    have hs : Real.sqrt r ≠ 0 := (Real.sqrt_pos.mpr hr).ne'
    rw [Ideal.rsqrt_coe, Ideal.sqrt_coe, if_neg hr.le.not_gt, if_neg hr.ne', if_neg hr.le.not_gt, if_neg (by exact_mod_cast hs)]
    rw [EReal.coe_inv]

/-- A square is not negative. -/
theorem sq_nonneg (y : EReal) : 0 ≤ y * y := by
  induction y with
  | bot => simp
  | top => simp
  | coe r => exact_mod_cast mul_self_nonneg r

theorem cnt_eq : cnt = ((512 : ℝ) : EReal) := by
  unfold cnt
  simp [Ideal.ofBits, Ideal.ieee, -EReal.coe_mul]
  norm_num

theorem eps_pos : 0 < eps := by
  unfold eps
  simp [Ideal.ofBits, Ideal.ieee, -EReal.coe_mul]

/-- The mean square of a row plus the small constant is positive. -/
theorem msq_pos (X : (⟨3, ![4, 2048, 512]⟩ : Shape).Idx → EReal) (r : Fin 2048) : 0 < msq X r := by
  have h1 : 0 ≤ ∑ l : Fin 512, tot X r l * tot X r l := Finset.sum_nonneg fun l _ => sq_nonneg _
  have h2 : 0 ≤ Ideal.div (∑ l : Fin 512, tot X r l * tot X r l) cnt := by
    unfold Ideal.div
    rw [cnt_eq, if_neg (by norm_num)]
    refine EReal.mul_nonneg h1 ?_
    rw [← EReal.coe_inv]
    exact_mod_cast (by norm_num : (0 : ℝ) ≤ (512 : ℝ)⁻¹)
  unfold msq
  calc (0 : EReal) < eps := eps_pos
    _ = 0 + eps := (zero_add _).symm
    _ ≤ _ := add_le_add_left h2 eps

/-- Column `k` of quarter `q` of a row. -/
def colq (q : Fin 4) (k : Fin 128) : Fin 512 := ⟨128 * q.val + k.val, by omega⟩

/-- A sum over a row is the sum over its four quarters. -/
theorem sum_quarters (f : Fin 512 → EReal) :
    ∑ l : Fin 512, f l = (∑ k : Fin 128, f (colq 0 k)) + (∑ k : Fin 128, f (colq 1 k)) + (∑ k : Fin 128, f (colq 2 k)) + (∑ k : Fin 128, f (colq 3 k)) := by
  rw [Fin.sum_univ_tiles 4 128 (by norm_num) f, Fin.sum_univ_four]
  refine congrArg₂ _ (congrArg₂ _ (congrArg₂ _ ?_ ?_) ?_) ?_ <;>
    exact Finset.sum_congr rfl fun k _ => congrArg f (Fin.ext (by simp [colq] <;> omega))

/-- The sum of four entries, from any of them on, going down around the ring. -/
theorem sum_ring (f : Fin 4 → EReal) (z : ℕ) (hz : z < 4) :
    f ⟨(z + 0) % 4, Nat.mod_lt _ (by decide)⟩ + f ⟨(z + 3) % 4, Nat.mod_lt _ (by decide)⟩ + f ⟨(z + 2) % 4, Nat.mod_lt _ (by decide)⟩
      + f ⟨(z + 1) % 4, Nat.mod_lt _ (by decide)⟩ = ∑ k : Fin 4, f k := by
  rw [Fin.sum_univ_four]
  obtain rfl | rfl | rfl | rfl : z = 0 ∨ z = 1 ∨ z = 2 ∨ z = 3 := by omega
  · show f 0 + f 3 + f 2 + f 1 = f 0 + f 1 + f 2 + f 3; ac_rfl
  · show f 1 + f 0 + f 3 + f 2 = f 0 + f 1 + f 2 + f 3; ac_rfl
  · show f 2 + f 1 + f 0 + f 3 = f 0 + f 1 + f 2 + f 3; ac_rfl
  · show f 3 + f 2 + f 1 + f 0 = f 0 + f 1 + f 2 + f 3; ac_rfl

end Cert.Value

end
-- ==== Proof.Value.Ref.lean ====
/-
# The reference's result at a row and a column

The composed term of the reference's host operations, read at an index, is `spec`.
-/
module

public import proofs.«01_k».proof.Proof.Value.Maths
public import proofs.«01_k».proof.Proof.Gen.ReferenceIdeal.Run

@[expose] public section

noncomputable section

namespace Cert.Value

open Cert.ReferenceIdeal Cert.ReferenceIdeal.Gen
open Idealize.ShloMosaic Idealize.ShloMosaic.TcCoe Idealize.SL.Sem

/-- The reference's sum of the partial sums. -/
def refTot (X : FVec Ideal S4x2048x512 .f32) : FVec Ideal S2048x512 .f32 :=
  Host.reduceAdd X (constant S_ .f32 0x00000000#32) reducesTo_S4x2048x512_S2048x512_d0 h_S_

/-- The reference's result, from its two arguments. -/
def refOut (X : FVec Ideal S4x2048x512 .f32) (G : FVec Ideal S512 .f32) : FVec Ideal S2048x512 .f32 :=
  mulf (Host.divf (refTot X) (broadcastInDim S2048x512 ![0, 1] bcast_S2048x1_S2048x512_0_1
      (Host.sqrt (addf (Host.divf (broadcastInDim S2048x1 ![0] bcast_S2048_S2048x1_0
          (Host.reduceAdd (mulf (refTot X) (refTot X)) (constant S_ .f32 0x00000000#32) reducesTo_S2048x512_S2048_d1 h_S_))
        (broadcastInDim S2048x1 ![] bcast_S_S2048x1 (constant S_ .f32 0x44000000#32)))
        (broadcastInDim S2048x1 ![] bcast_S_S2048x1 (constant S_ .f32 0x358637BD#32))))))
    (broadcastInDim S2048x512 ![0, 1] bcast_S1x512_S2048x512_0_1 (broadcastInDim S1x512 ![1] bcast_S512_S1x512_1 G))

/-- The reference ends with its result at `refOut` of its arguments, which are kept. -/
theorem ref_run (m : (ℓ : Loc nD τ sig) → Buf (Elt Ideal) ℓ) (g : Dev nD → PrngReg) :
    θ_run defs (onTc (τ := τ) (main (F := Ideal))) ⟨m, fun _ => 0, g⟩ fun r => ∀ c : Dev nD,
      r.2.mem ((c.tc : Thread nD τ).loc main_v13) = refOut (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  Cert.ReferenceIdeal.Value.run (F := Ideal) m g

theorem refTot_apply (X : FVec Ideal S4x2048x512 .f32) (r : Fin 2048) (l : Fin 512) : refTot X (ix2 r l) = tot X r l := by
  unfold refTot tot
  pointwise

/-- The reference's result at a row and a column. -/
theorem refOut_apply (X : FVec Ideal S4x2048x512 .f32) (G : FVec Ideal S512 .f32) (r : Fin 2048) (l : Fin 512) :
    refOut X G (ix2 r l) = spec X G r l := by
  unfold refOut spec msq cnt eps
  pointwise [refTot_apply]

end Cert.Value

end
-- ==== Proof.Value.Kernel.lean ====
/-
# The kernel's result at a row and a column

What device `c` holds at the end, read at an index, is `spec` of the whole array of partial sums at the row of its block,
when each device starts with its part of the whole array and a copy of gamma.
-/
module

public import proofs.«01_k».proof.Proof.Value.Maths
public import proofs.«01_k».proof.Proof.KernelIdealRun.Launch

@[expose] public section

noncomputable section

namespace Cert.Value

open Cert.KernelIdeal Cert.KernelIdeal.Gen Cert.KernelIdealRun
open Idealize.ShloMosaic Idealize.ShloMosaic.TcCoe Idealize.SL.Sem

variable (m : (ℓ : Loc nD τ sig) → Buf (Elt Ideal) ℓ) (ρ : Dev nD → PrngReg)

/-- The result array of a device ends as what its last phase writes. -/
theorem finalA_o (c : Dev nD) : finalA m ρ c (2 : Fin 3) = OUT m ρ c := by
  have hz : (fun a => (win0_2.index (0 : Fin 1)) a * main_v1.ty.shape.size a) = fun _ => 0 :=
    funext fun a => by fin_cases a <;> decide
  have hr := fun f => Memref.read_access_unit_zero (Elt Ideal) main_v1 hz (fun a => by fin_cases a <;> decide) f
  have ho : (win0_2.blk (0 : Fin 1)).view.read (Elt Ideal) (finalA m ρ c (2 : Fin 3)) = OUT m ρ c := by
    unfold finalA
    rw [show cfg0.N = ((0 : Fin 1) : Fin cfg0.N).val + 1 from rfl, (dats m ρ 0 c).arrAt_succ (2 : Fin 3) (0 : Fin 1)]
    rw [show (cfg0.win (2 : Fin 3)).flush (0 : Fin 1) = true from by decide, if_pos rfl]
    exact View.read_write_univ _ _
  rw [hr] at ho
  exact ho

/-- The staged block is the device's array of partial sums. -/
theorem xstg_eq (c : Dev nD) : xstg m ρ c = m ((c : Thread nD τ).loc main_arg0) := by
  have hz : (fun a => (win0_0.index (0 : Fin 1)) a * main_arg0.ty.shape.size a) = fun _ => 0 :=
    funext fun a => by fin_cases a <;> decide
  exact Memref.read_access_unit_zero (Elt Ideal) main_arg0 hz (fun a => by fin_cases a <;> decide) _

/-- The staged gamma is the device's array of gamma. -/
theorem gstg_eq (c : Dev nD) : gstg m ρ c = m ((c : Thread nD τ).loc main_arg1) := by
  have hz : (fun a => (win0_1.index (0 : Fin 1)) a * main_arg1.ty.shape.size a) = fun _ => 0 :=
    funext fun a => by fin_cases a <;> decide
  exact Memref.read_access_unit_zero (Elt Ideal) main_arg1 hz (fun a => by fin_cases a <;> decide) _

variable (X : (⟨3, ![4, 2048, 512]⟩ : Shape).Idx → EReal) (G : (⟨1, ![512]⟩ : Shape).Idx → EReal)

/-- Every device starts with its part of the whole array of partial sums: the one its place on the ring names. -/
def Starts : Prop := ∀ c : Dev nD, ∀ (r : Fin 2048) (l : Fin 512),
  (show S1x2048x512.Idx → EReal from m ((c : Thread nD τ).loc main_arg0)) (ix3 0 r l) = X (ix3 ⟨c.val % 4, Nat.mod_lt _ (by decide)⟩ r l)
/-- Every device starts with a copy of gamma. -/
def StartsG : Prop := ∀ c : Dev nD, ∀ l : Fin 512, (show S512.Idx → EReal from m ((c : Thread nD τ).loc main_arg1)) (ix1 l) = G (ix1 l)

variable {m} {X} {G}

theorem xat_eq (h : Starts m X) (c : Dev nD) (r : Fin 2048) (l : Fin 512) :
    xat m ρ c r.val l.val = X (ix3 ⟨c.val % 4, Nat.mod_lt _ (by decide)⟩ r l) := by
  unfold xat
  rw [xstg_eq, ← h c r l]
  refine congrArg (m ((c : Thread nD τ).loc main_arg0)) ?_
  exact congrArg₂ (ix3 (0 : Fin 1)) (Fin.ext (Nat.mod_eq_of_lt r.isLt)) (Fin.ext (Nat.mod_eq_of_lt l.isLt))

/-- The sum over the four planes does not depend on the order in which a device adds them. -/
theorem qsum_eq (h : Starts m X) (d : Dev nD) (r : Fin 2048) (l : Fin 512) : qsum m ρ d r.val l.val = tot X r l := by
  unfold qsum tot
  rw [xat_eq ρ h, xat_eq ρ h, xat_eq ρ h, xat_eq ρ h]
  rw [← sum_ring (fun z => X (ix3 z r l)) (d.val % 4) (Nat.mod_lt _ (by decide))]
  have e : ∀ k, k < 4 → (⟨(zp k d).val % 4, Nat.mod_lt _ (by decide)⟩ : Fin 4) = ⟨(d.val % 4 + k) % 4, Nat.mod_lt _ (by decide)⟩ := fun k _ => by
    apply Fin.ext
    show (4 * (d.val / 4) + (d.val % 4 + k) % 4) % 4 = (d.val % 4 + k) % 4
    omega
  have e0 : (⟨d.val % 4, Nat.mod_lt _ (by decide)⟩ : Fin 4) = ⟨(d.val % 4 + 0) % 4, Nat.mod_lt _ (by decide)⟩ := by
    apply Fin.ext; show d.val % 4 = (d.val % 4 + 0) % 4; omega
  rw [e 3 (by decide), e 2 (by decide), e 1 (by decide), e0]
  rfl

/-- The row of the whole array that row `r` of device `c`'s block is. -/
def row (c : Dev nD) (r : Fin 512) : Fin 2048 := ⟨512 * (c.val % 4) + r.val, by omega⟩

/-- The summed block of a plane, at a quarter, a row and a column of the quarter. -/
theorem QA_eq (h : Starts m X) (c : Dev nD) (q : Fin 4) (r : Fin 512) (k : Fin 128) :
    QA m ρ c (ix3 q r k) = tot X (row c r) (colq q k) :=
  qsum_eq ρ h (pl q.val c) (row c r) (colq q k)

/-- A quarter of the summed block, as it is loaded. -/
theorem ldA_eq (h : Starts m X) (c : Dev nD) (q : Fin 4) {off : Fin 3 → ℕ} (hoff : off = ![q.val, 0, 0]) (inb) (r : Fin 512) (k : Fin 128) :
    ldA m ρ c off inb (ix3 0 r k) = tot X (row c r) (colq q k) := by
  subst hoff
  rw [← QA_eq ρ h]
  refine congrArg (QA m ρ c) ?_
  funext a
  apply Fin.ext
  fin_cases a
  · show q.val + 1 * 0 = q.val; omega
  · show 0 + 1 * r.val = r.val; omega
  · show 0 + 1 * k.val = k.val; omega

/-- A quarter of gamma, as it is loaded. -/
theorem ldG_eq (h : StartsG m G) (c : Dev nD) (q : Fin 4) {off : Fin 1 → ℕ} (hoff : off = ![128 * q.val]) (inb) (k : Fin 128) :
    ldG m ρ c off inb (ix1 k) = G (ix1 (colq q k)) := by
  subst hoff
  rw [← h c]
  unfold ldG
  rw [gstg_eq]
  refine congrArg (m ((c : Thread nD τ).loc main_arg1)) ?_
  funext a
  apply Fin.ext
  fin_cases a
  show 128 * q.val + 1 * k.val = 128 * q.val + k.val; omega

theorem a0_eq (h : Starts m X) (c : Dev nD) (r : Fin 512) (k : Fin 128) : a0 m ρ c (ix3 0 r k) = tot X (row c r) (colq 0 k) :=
  ldA_eq ρ h c 0 rfl inb_S4x512x128_S1x512x128_0_0_0 r k
theorem a1_eq (h : Starts m X) (c : Dev nD) (r : Fin 512) (k : Fin 128) : a1 m ρ c (ix3 0 r k) = tot X (row c r) (colq 1 k) :=
  ldA_eq ρ h c 1 rfl inb_S4x512x128_S1x512x128_1_0_0 r k
theorem a2_eq (h : Starts m X) (c : Dev nD) (r : Fin 512) (k : Fin 128) : a2 m ρ c (ix3 0 r k) = tot X (row c r) (colq 2 k) :=
  ldA_eq ρ h c 2 rfl inb_S4x512x128_S1x512x128_2_0_0 r k
theorem a3_eq (h : Starts m X) (c : Dev nD) (r : Fin 512) (k : Fin 128) : a3 m ρ c (ix3 0 r k) = tot X (row c r) (colq 3 k) :=
  ldA_eq ρ h c 3 rfl inb_S4x512x128_S1x512x128_3_0_0 r k
theorem g0_eq (h : StartsG m G) (c : Dev nD) (k : Fin 128) : g0 m ρ c (ix1 k) = G (ix1 (colq 0 k)) := ldG_eq ρ h c 0 rfl inb_S512_S128_0 k
theorem g1_eq (h : StartsG m G) (c : Dev nD) (k : Fin 128) : g1 m ρ c (ix1 k) = G (ix1 (colq 1 k)) := ldG_eq ρ h c 1 rfl inb_S512_S128_128 k
theorem g2_eq (h : StartsG m G) (c : Dev nD) (k : Fin 128) : g2 m ρ c (ix1 k) = G (ix1 (colq 2 k)) := ldG_eq ρ h c 2 rfl inb_S512_S128_256 k
theorem g3_eq (h : StartsG m G) (c : Dev nD) (k : Fin 128) : g3 m ρ c (ix1 k) = G (ix1 (colq 3 k)) := ldG_eq ρ h c 3 rfl inb_S512_S128_384 k

/-- The factor of a row is the reciprocal root of its mean square. -/
theorem rowF_eq (h : Starts m X) (c : Dev nD) (r : Fin 512) : rowF m ρ c (ix2 r 0) = Ideal.rsqrt (msq X (row c r)) := by
  unfold rowF k0_pay14 k0_pay12 k0_pay13 msq cnt eps
  rw [sum_quarters]
  pointwise [a0_eq ρ h, a1_eq ρ h, a2_eq ρ h, a3_eq ρ h]

/-- Each column quarter of the result. -/
theorem col0_eq (h : Starts m X) (hG : StartsG m G) (c : Dev nD) (r : Fin 512) (k : Fin 128) :
    col0 m ρ c (ix2 r k) = spec X G (row c r) (colq 0 k) := by
  have hf := rowF_eq ρ h c r
  unfold rowF at hf
  unfold col0 k0_pay15 spec
  rw [← mul_rsqrt _ _ (msq_pos X _)]
  pointwise [a0_eq ρ h, g0_eq ρ hG, hf]
theorem col1_eq (h : Starts m X) (hG : StartsG m G) (c : Dev nD) (r : Fin 512) (k : Fin 128) :
    col1 m ρ c (ix2 r k) = spec X G (row c r) (colq 1 k) := by
  unfold col1 k0_pay16 spec
  rw [← mul_rsqrt _ _ (msq_pos X _)]
  pointwise [a1_eq ρ h, g1_eq ρ hG, rowF_eq ρ h]
theorem col2_eq (h : Starts m X) (hG : StartsG m G) (c : Dev nD) (r : Fin 512) (k : Fin 128) :
    col2 m ρ c (ix2 r k) = spec X G (row c r) (colq 2 k) := by
  unfold col2 k0_pay17 spec
  rw [← mul_rsqrt _ _ (msq_pos X _)]
  pointwise [a2_eq ρ h, g2_eq ρ hG, rowF_eq ρ h]
theorem col3_eq (h : Starts m X) (hG : StartsG m G) (c : Dev nD) (r : Fin 512) (k : Fin 128) :
    col3 m ρ c (ix2 r k) = spec X G (row c r) (colq 3 k) := by
  unfold col3 k0_pay1 spec
  rw [← mul_rsqrt _ _ (msq_pos X _)]
  pointwise [a3_eq ρ h, g3_eq ρ hG, rowF_eq ρ h]

/-- Device `c`'s result at a row of its block and a column. -/
theorem OUT_eq (h : Starts m X) (hG : StartsG m G) (c : Dev nD) (r l : Fin 512) : OUT m ρ c (ix2 r l) = spec X G (row c r) l := by
  have e : ∀ q : Fin 4, 128 * q.val ≤ l.val → l.val < 128 * q.val + 128 → colq q ⟨l.val % 128, Nat.mod_lt _ (by decide)⟩ = l := fun q h1 h2 => by
    apply Fin.ext; show 128 * q.val + l.val % 128 = l.val; omega
  unfold OUT
  show (if l.val < 128 then col0 m ρ c else if l.val < 256 then col1 m ρ c else if l.val < 384 then col2 m ρ c else col3 m ρ c)
    (ix2 r ⟨l.val % 128, Nat.mod_lt _ (by decide)⟩) = _
  split
  next h1 =>
    refine (col0_eq ρ h hG c r _).trans ?_
    rw [e 0 (by simp) (by simpa using h1)]
  next h1 =>
    split
    next h2 =>
      refine (col1_eq ρ h hG c r _).trans ?_
      rw [e 1 (by show 128 * 1 ≤ _; omega) (by show _ < 128 * 1 + 128; omega)]
    next h2 =>
      split
      next h3 =>
        refine (col2_eq ρ h hG c r _).trans ?_
        rw [e 2 (by show 128 * 2 ≤ _; omega) (by show _ < 128 * 2 + 128; omega)]
      next h3 =>
        refine (col3_eq ρ h hG c r _).trans ?_
        have := l.isLt
        rw [e 3 (by show 128 * 3 ≤ _; omega) (by show _ < 128 * 3 + 128; omega)]

/-- From starting memories with the parts of the whole arrays, every run ends with device `c`'s result at `spec`, row by
    row of its block, and with the arguments kept. -/
theorem kernel_run (m : (ℓ : Loc nD τ sig) → Buf (Elt Ideal) ℓ) (g : Dev nD → PrngReg) (h : Starts m X) (hG : StartsG m G) :
    θ_run defs (onTc (τ := τ) (main (F := Ideal))) ⟨m, fun _ => 0, g⟩ fun r => ∀ c : Dev nD,
      (∀ i l : Fin 512, (show S512x512.Idx → EReal from r.2.mem ((c.tc : Thread nD τ).loc main_v1)) (ix2 i l) = spec X G (row c i) l)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono
    (fun _ hr c => ⟨fun i l => (congrFun ((hr.1 c (2 : Fin 3)).trans (finalA_o m g c)) (ix2 i l)).trans (OUT_eq g h hG c i l),
      (hr.1 c (0 : Fin 3)).trans (finalA_x m g c), (hr.1 c (1 : Fin 3)).trans (finalA_g m g c)⟩)
    (run_main (F := Ideal) m g)

end Cert.Value

end
-- ==== Proof.lean ====
/-
# The claims of the certificate

The two programs of the kernel run by `Cert.KernelRun.run_main` and `Cert.KernelIdealRun.run_main`: from any memory with
every counter at zero, every run on the sixteen devices ends, with the argument arrays as they were and every counter at
zero again. The reference runs by its list of host operations. At exact arithmetic both results are `Cert.Value.spec`, the
normalised sum: `Cert.Value.kernel_run` for the block of each device, `Cert.Value.refOut_apply` for the whole array.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelRun.Launch
public import proofs.«01_k».proof.Proof.KernelIdealRun.Launch
public import proofs.«01_k».proof.Proof.Value.Blocks
public import proofs.«01_k».proof.Proof.Value.Ref
public import proofs.«01_k».proof.Proof.Value.Kernel
public import Idealize.ShloMosaic.Lib.Quiescent
public import Idealize.ShloMosaic.Adequacy
public import Idealize.ShloMosaic.Init

@[expose] public section

noncomputable section

namespace Cert.Proof

open Idealize.ShloMosaic Idealize.SL.Sem

/-- The kernel at the hardware's floats runs, keeps its arguments and ends with every counter at zero. -/
theorem frame_kernel : Cert.quiescent_Kernel := fun m g _ =>
  (θ_run Cert.Kernel.defs _ _).mono
    (fun _ h => ⟨fun c => ⟨(h.1 c (0 : Fin 3)).trans (Cert.KernelRun.finalA_x m g c), (h.1 c (1 : Fin 3)).trans (Cert.KernelRun.finalA_g m g c)⟩, h.2⟩)
    (Cert.KernelRun.run_main (F := Bits) m g)

/-- The kernel at exact arithmetic runs, keeps its arguments and ends with every counter at zero. -/
theorem frame_ideal : Cert.quiescent_KernelIdeal := fun m g _ =>
  (θ_run Cert.KernelIdeal.defs _ _).mono
    (fun _ h => ⟨fun c => ⟨(h.1 c (0 : Fin 3)).trans (Cert.KernelIdealRun.finalA_x m g c), (h.1 c (1 : Fin 3)).trans (Cert.KernelIdealRun.finalA_g m g c)⟩, h.2⟩)
    (Cert.KernelIdealRun.run_main (F := Ideal) m g)

/-- The reference runs, keeps its arguments, and declares no semaphore. -/
theorem frame_reference : Cert.quiescent_ReferenceIdeal := fun m g _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m g)

/-- At exact arithmetic each device ends with its rows of the reference's result. -/
theorem algebraic : Cert.algebraic_KernelIdeal_ReferenceIdeal := by
  intro m g m' g' _ hagree
  refine ⟨Cert.Value.refOut (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)), ?_, ?_⟩
  · refine (θ_run Cert.KernelIdeal.defs _ _).mono (fun r hr c => ⟨?_, (hr c).2⟩) (Cert.Value.kernel_run
      (X := m' (((0 : Dev Cert.ReferenceIdeal.nD).tc : Thread Cert.ReferenceIdeal.nD Cert.ReferenceIdeal.τ).loc Cert.ReferenceIdeal.main_arg0))
      (G := m' (((0 : Dev Cert.ReferenceIdeal.nD).tc : Thread Cert.ReferenceIdeal.nD Cert.ReferenceIdeal.τ).loc Cert.ReferenceIdeal.main_arg1)) m g ?_ ?_)
    · funext i
      rw [eq_ix2 i]
      refine ((hr c).1 (i 0) (i 1)).trans ?_
      refine (Cert.Value.refOut_apply _ _ _ _).symm.trans ?_
      exact congrArg _ (Cert.Value.result_idx _ _ (c.val % 4) (Cert.Value.place2 c _).1 (Cert.Value.place2 c _).2 (i 0) (i 1) _).symm
    · intro c r l
      rw [(hagree c).1]
      exact congrArg _ (Cert.Value.part_idx _ _ _ (Cert.Value.place3 c _).1 (Cert.Value.place3 c _).2.1 (Cert.Value.place3 c _).2.2 r l)
    · intro c l
      rw [(hagree c).2]
  · exact (θ_run Cert.ReferenceIdeal.defs _ _).mono (fun _ h => h 0) (Cert.Value.ref_run m' g')

/-- Every claim of the certificate. -/
theorem claim : Cert.Claim :=
  ⟨Cert.Kernel.Gen.facts, Cert.KernelIdeal.Gen.facts, Cert.ReferenceIdeal.Gen.facts,
    frame_kernel, frame_ideal, frame_reference, trivial, algebraic⟩

end Cert.Proof

end
